-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S100000x512 : Shape := ⟨2, ![100000, 512]⟩
abbrev S100000x3 : Shape := ⟨2, ![100000, 3]⟩
abbrev S512x20 : Shape := ⟨2, ![512, 20]⟩
abbrev S20 : Shape := ⟨1, ![20]⟩
abbrev S100000x20 : Shape := ⟨2, ![100000, 20]⟩
abbrev S1x20 : Shape := ⟨2, ![1, 20]⟩
abbrev S_ : Shape := ⟨0, ![]⟩
abbrev S100000 : Shape := ⟨1, ![100000]⟩
abbrev S100000x1 : Shape := ⟨2, ![100000, 1]⟩
abbrev S3 : Shape := ⟨1, ![3]⟩
abbrev S1x3 : Shape := ⟨2, ![1, 3]⟩
abbrev S26 : Shape := ⟨1, ![26]⟩
abbrev S25 : Shape := ⟨1, ![25]⟩

class Facts : Prop where
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  reducesTo_S100000x20_S100000_d1 : S100000x20.ReducesTo [1] S100000
  h_S_ : 0 < S_.numel
  bcast_S_S100000 : S_.BroadcastsInDim S100000 (![] : Fin 0 → Fin S100000.rank)
  reducesTo_S100000_S_d0 : S100000.ReducesTo [0] S_
  bcast_S_S100000x3 : S_.BroadcastsInDim S100000x3 (![] : Fin 0 → Fin S100000x3.rank)
  reducesTo_S100000x3_S_d0_1 : S100000x3.ReducesTo [0, 1] S_
  natLt_1_32 : 1 < 32
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  reducesTo_S100000x3_S3_d0 : S100000x3.ReducesTo [0] S3
  bcast_S_S3 : S_.BroadcastsInDim S3 (![] : Fin 0 → Fin S3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  reducesTo_S100000x3_S100000_d1 : S100000x3.ReducesTo [1] S100000
  sliceFits_S100000_S26 : S100000.Slices (fun _ => 0) S26
  slices_S26_S25_0 : S26.Slices ![0] S25
  slices_S26_S25_1 : S26.Slices ![1] S25
  reducesTo_S25_S_d0 : S25.ReducesTo [0] S_
  dot_S100000x512_S512x20_S100000x20_1_0_0_1_n_n_wf : DotDims.WF S100000x512 S512x20 S100000x20 [1] [0] [0] [1] [] []

variable [Facts]

variable {F : FTy → Type} [FloatOps F]
def dot_S100000x512_S512x20_S100000x20_1_0_0_1_n_n : DotDims S100000x512 S512x20 S100000x20 where
  lhsContracting := [1]
  rhsContracting := [0]
  lhsNonContracting := [0]
  rhsNonContracting := [1]
  lhsBatch := []
  rhsBatch := []
  wf := dot_S100000x512_S512x20_S100000x20_1_0_0_1_n_n_wf
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S100000x20 .f32) : IVec S100000 32 :=
  let v0 : IVec S100000x20 32 := iotaInDim S100000x20 32 1
  let cst : FVec F S_ .f32 := constant S_ .f32 0xFF800000#32
  let c : IVec S_ 32 := constantI S_ 32 0#32
  let v1_0 : FVec F S100000 .f32 := (fun x y u v j => (Host.argReduce reducer_argmax_f32_i32 x y u v reducesTo_S100000x20_S100000_d1 h_S_ j).1) arg0 v0 cst c
  let v1_1 : IVec S100000 32 := (fun x y u v j => (Host.argReduce reducer_argmax_f32_i32 x y u v reducesTo_S100000x20_S100000_d1 h_S_ j).2) arg0 v0 cst c
  v1_1

def fn_where {F : FTy → Type} [FloatOps F] (arg0 : IVec S100000x1 1) (arg1 : FVec F S100000x3 .f32) (arg2 : FVec F S_ .f32) : FVec F S100000x3 .f32 :=
  let v0 : FVec F S_ .f32 := id arg2
  let v1 : IVec S100000x3 1 := broadcastInDim S100000x3 ![0, 1] bcast_S100000x1_S100000x3_0_1 arg0
  let v2 : FVec F S100000x3 .f32 := broadcastInDim S100000x3 ![] bcast_S_S100000x3 v0
  let v3 : FVec F S100000x3 .f32 := select v1 arg1 v2
  v3

def fn_part13 {F : FTy → Type} [FloatOps F] (main_v202 : IVec S_ 1) (main_v206 : IVec S_ 32) (main_v222 : FVec F S100000 .f32) : IVec S_ 1 :=
  let main_values_85 : FVec F S26 .f32 := (fun x => (Host.topK S26 0 (FloatOps.cmpfTotal .gt) x sliceFits_S100000_S26).1) main_v222
  let main_indices_86 : IVec S26 32 := (fun x => (Host.topK S26 0 (FloatOps.cmpfTotal .gt) x sliceFits_S100000_S26).2) main_v222
  let main_c_87 : IVec S_ 32 := constantI S_ 32 0#32
  let main_v223 : IVec S_ 1 := cmpi .eq main_v206 main_c_87
  let main_v224 : FVec F S25 .f32 := (extractStridedSlice S25 ![0] · slices_S26_S25_0) main_values_85
  let main_v225 : FVec F S25 .f32 := (extractStridedSlice S25 ![1] · slices_S26_S25_1) main_values_85
  let main_v226 : IVec S25 1 := cmpf .ogt main_v224 main_v225
  let main_c_88 : IVec S_ 1 := constantI S_ 1 1#1
  let main_v227 : IVec S_ 1 := (fun x v => Host.reduce IntOp.andi x v reducesTo_S25_S_d0 h_S_) main_v226 main_c_88
  let main_v228 : IVec S_ 1 := ori main_v223 main_v227
  let main_v229 : IVec S_ 1 := andi main_v202 main_v228
  main_v229

def fn_part12 {F : FTy → Type} [FloatOps F] (main_arg1 : FVec F S100000x3 .f32) (main_v202 : IVec S_ 1) (main_v204 : IVec S100000 1) : IVec S_ 1 :=
  let main_v205 : IVec S100000 32 := (extui 32 · natLt_1_32) main_v204
  let main_c_79 : IVec S_ 32 := constantI S_ 32 0#32
  let main_v206 : IVec S_ 32 := (fun x v => Host.reduce IntOp.addi x v reducesTo_S100000_S_d0 h_S_) main_v205 main_c_79
  let main_c_80 : IVec S_ 32 := constantI S_ 32 1#32
  let main_v207 : IVec S_ 32 := maxsi main_v206 main_c_80
  let main_v208 : FVec F S_ .f32 := sitofp .f32 main_v207
  let main_v209 : IVec S100000x1 1 := broadcastInDim S100000x1 ![0] bcast_S100000_S100000x1_0 main_v204
  let main_cst_81 : FVec F S_ .f32 := constant S_ .f32 0x00000000#32
  let main_v210 : FVec F S100000x3 .f32 := fn_where (F := F) main_v209 main_arg1 main_cst_81
  let main_cst_82 : FVec F S_ .f32 := constant S_ .f32 0x00000000#32
  let main_v211 : FVec F S3 .f32 := (fun x v => Host.reduceAdd x v reducesTo_S100000x3_S3_d0 h_S_) main_v210 main_cst_82
  let main_v212 : FVec F S3 .f32 := broadcastInDim S3 ![] bcast_S_S3 main_v208
  let main_v213 : FVec F S3 .f32 := Host.divf main_v211 main_v212
  let main_v214 : FVec F S1x3 .f32 := broadcastInDim S1x3 ![1] bcast_S3_S1x3_1 main_v213
  let main_v215 : FVec F S100000x3 .f32 := broadcastInDim S100000x3 ![0, 1] bcast_S1x3_S100000x3_0_1 main_v214
  let main_v216 : FVec F S100000x3 .f32 := subf main_arg1 main_v215
  let main_v217 : FVec F S100000x3 .f32 := mulf main_v216 main_v216
  let main_cst_83 : FVec F S_ .f32 := constant S_ .f32 0x00000000#32
  let main_v218 : FVec F S100000 .f32 := (fun x v => Host.reduceAdd x v reducesTo_S100000x3_S100000_d1 h_S_) main_v217 main_cst_83
  let main_cst_84 : FVec F S_ .f32 := constant S_ .f32 0x2B8CBCCC#32
  let main_v219 : FVec F S100000 .f32 := broadcastInDim S100000 ![] bcast_S_S100000 main_cst_84
  let main_v220 : FVec F S100000 .f32 := addf main_v218 main_v219
  let main_v221 : FVec F S100000 .f32 := Host.sqrt main_v220
  let main_v222 : FVec F S100000 .f32 := Host.negf main_v221
  fn_part13 (F := F) main_v202 main_v206 main_v222

def fn_part11 {F : FTy → Type} [FloatOps F] (main_arg1 : FVec F S100000x3 .f32) (main_v4 : IVec S100000 32) (main_v175 : IVec S_ 1) (main_v179 : IVec S_ 32) (main_v187 : FVec F S1x3 .f32) : IVec S_ 1 :=
  let main_v188 : FVec F S100000x3 .f32 := broadcastInDim S100000x3 ![0, 1] bcast_S1x3_S100000x3_0_1 main_v187
  let main_v189 : FVec F S100000x3 .f32 := subf main_arg1 main_v188
  let main_v190 : FVec F S100000x3 .f32 := mulf main_v189 main_v189
  let main_cst_72 : FVec F S_ .f32 := constant S_ .f32 0x00000000#32
  let main_v191 : FVec F S100000 .f32 := (fun x v => Host.reduceAdd x v reducesTo_S100000x3_S100000_d1 h_S_) main_v190 main_cst_72
  let main_cst_73 : FVec F S_ .f32 := constant S_ .f32 0x2B8CBCCC#32
  let main_v192 : FVec F S100000 .f32 := broadcastInDim S100000 ![] bcast_S_S100000 main_cst_73
  let main_v193 : FVec F S100000 .f32 := addf main_v191 main_v192
  let main_v194 : FVec F S100000 .f32 := Host.sqrt main_v193
  let main_v195 : FVec F S100000 .f32 := Host.negf main_v194
  let main_values_74 : FVec F S26 .f32 := (fun x => (Host.topK S26 0 (FloatOps.cmpfTotal .gt) x sliceFits_S100000_S26).1) main_v195
  let main_indices_75 : IVec S26 32 := (fun x => (Host.topK S26 0 (FloatOps.cmpfTotal .gt) x sliceFits_S100000_S26).2) main_v195
  let main_c_76 : IVec S_ 32 := constantI S_ 32 0#32
  let main_v196 : IVec S_ 1 := cmpi .eq main_v179 main_c_76
  let main_v197 : FVec F S25 .f32 := (extractStridedSlice S25 ![0] · slices_S26_S25_0) main_values_74
  let main_v198 : FVec F S25 .f32 := (extractStridedSlice S25 ![1] · slices_S26_S25_1) main_values_74
  let main_v199 : IVec S25 1 := cmpf .ogt main_v197 main_v198
  let main_c_77 : IVec S_ 1 := constantI S_ 1 1#1
  let main_v200 : IVec S_ 1 := (fun x v => Host.reduce IntOp.andi x v reducesTo_S25_S_d0 h_S_) main_v199 main_c_77
  let main_v201 : IVec S_ 1 := ori main_v196 main_v200
  let main_v202 : IVec S_ 1 := andi main_v175 main_v201
  let main_c_78 : IVec S_ 32 := constantI S_ 32 15#32
  let main_v203 : IVec S100000 32 := broadcastInDim S100000 ![] bcast_S_S100000 main_c_78
  let main_v204 : IVec S100000 1 := cmpi .eq main_v4 main_v203
  fn_part12 (F := F) main_arg1 main_v202 main_v204

def fn_part10 {F : FTy → Type} [FloatOps F] (main_arg1 : FVec F S100000x3 .f32) (main_v4 : IVec S100000 32) (main_v148 : IVec S_ 1) (main_values_63 : FVec F S26 .f32) (main_v169 : IVec S_ 1) : IVec S_ 1 :=
  let main_v170 : FVec F S25 .f32 := (extractStridedSlice S25 ![0] · slices_S26_S25_0) main_values_63
  let main_v171 : FVec F S25 .f32 := (extractStridedSlice S25 ![1] · slices_S26_S25_1) main_values_63
  let main_v172 : IVec S25 1 := cmpf .ogt main_v170 main_v171
  let main_c_66 : IVec S_ 1 := constantI S_ 1 1#1
  let main_v173 : IVec S_ 1 := (fun x v => Host.reduce IntOp.andi x v reducesTo_S25_S_d0 h_S_) main_v172 main_c_66
  let main_v174 : IVec S_ 1 := ori main_v169 main_v173
  let main_v175 : IVec S_ 1 := andi main_v148 main_v174
  let main_c_67 : IVec S_ 32 := constantI S_ 32 14#32
  let main_v176 : IVec S100000 32 := broadcastInDim S100000 ![] bcast_S_S100000 main_c_67
  let main_v177 : IVec S100000 1 := cmpi .eq main_v4 main_v176
  let main_v178 : IVec S100000 32 := (extui 32 · natLt_1_32) main_v177
  let main_c_68 : IVec S_ 32 := constantI S_ 32 0#32
  let main_v179 : IVec S_ 32 := (fun x v => Host.reduce IntOp.addi x v reducesTo_S100000_S_d0 h_S_) main_v178 main_c_68
  let main_c_69 : IVec S_ 32 := constantI S_ 32 1#32
  let main_v180 : IVec S_ 32 := maxsi main_v179 main_c_69
  let main_v181 : FVec F S_ .f32 := sitofp .f32 main_v180
  let main_v182 : IVec S100000x1 1 := broadcastInDim S100000x1 ![0] bcast_S100000_S100000x1_0 main_v177
  let main_cst_70 : FVec F S_ .f32 := constant S_ .f32 0x00000000#32
  let main_v183 : FVec F S100000x3 .f32 := fn_where (F := F) main_v182 main_arg1 main_cst_70
  let main_cst_71 : FVec F S_ .f32 := constant S_ .f32 0x00000000#32
  let main_v184 : FVec F S3 .f32 := (fun x v => Host.reduceAdd x v reducesTo_S100000x3_S3_d0 h_S_) main_v183 main_cst_71
  let main_v185 : FVec F S3 .f32 := broadcastInDim S3 ![] bcast_S_S3 main_v181
  let main_v186 : FVec F S3 .f32 := Host.divf main_v184 main_v185
  let main_v187 : FVec F S1x3 .f32 := broadcastInDim S1x3 ![1] bcast_S3_S1x3_1 main_v186
  fn_part11 (F := F) main_arg1 main_v4 main_v175 main_v179 main_v187

def fn_part9 {F : FTy → Type} [FloatOps F] (main_arg1 : FVec F S100000x3 .f32) (main_v4 : IVec S100000 32) (main_v148 : IVec S_ 1) (main_v150 : IVec S100000 1) (main_v152 : IVec S_ 32) (main_c_58 : IVec S_ 32) : IVec S_ 1 :=
  let main_v153 : IVec S_ 32 := maxsi main_v152 main_c_58
  let main_v154 : FVec F S_ .f32 := sitofp .f32 main_v153
  let main_v155 : IVec S100000x1 1 := broadcastInDim S100000x1 ![0] bcast_S100000_S100000x1_0 main_v150
  let main_cst_59 : FVec F S_ .f32 := constant S_ .f32 0x00000000#32
  let main_v156 : FVec F S100000x3 .f32 := fn_where (F := F) main_v155 main_arg1 main_cst_59
  let main_cst_60 : FVec F S_ .f32 := constant S_ .f32 0x00000000#32
  let main_v157 : FVec F S3 .f32 := (fun x v => Host.reduceAdd x v reducesTo_S100000x3_S3_d0 h_S_) main_v156 main_cst_60
  let main_v158 : FVec F S3 .f32 := broadcastInDim S3 ![] bcast_S_S3 main_v154
  let main_v159 : FVec F S3 .f32 := Host.divf main_v157 main_v158
  let main_v160 : FVec F S1x3 .f32 := broadcastInDim S1x3 ![1] bcast_S3_S1x3_1 main_v159
  let main_v161 : FVec F S100000x3 .f32 := broadcastInDim S100000x3 ![0, 1] bcast_S1x3_S100000x3_0_1 main_v160
  let main_v162 : FVec F S100000x3 .f32 := subf main_arg1 main_v161
  let main_v163 : FVec F S100000x3 .f32 := mulf main_v162 main_v162
  let main_cst_61 : FVec F S_ .f32 := constant S_ .f32 0x00000000#32
  let main_v164 : FVec F S100000 .f32 := (fun x v => Host.reduceAdd x v reducesTo_S100000x3_S100000_d1 h_S_) main_v163 main_cst_61
  let main_cst_62 : FVec F S_ .f32 := constant S_ .f32 0x2B8CBCCC#32
  let main_v165 : FVec F S100000 .f32 := broadcastInDim S100000 ![] bcast_S_S100000 main_cst_62
  let main_v166 : FVec F S100000 .f32 := addf main_v164 main_v165
  let main_v167 : FVec F S100000 .f32 := Host.sqrt main_v166
  let main_v168 : FVec F S100000 .f32 := Host.negf main_v167
  let main_values_63 : FVec F S26 .f32 := (fun x => (Host.topK S26 0 (FloatOps.cmpfTotal .gt) x sliceFits_S100000_S26).1) main_v168
  let main_indices_64 : IVec S26 32 := (fun x => (Host.topK S26 0 (FloatOps.cmpfTotal .gt) x sliceFits_S100000_S26).2) main_v168
  let main_c_65 : IVec S_ 32 := constantI S_ 32 0#32
  let main_v169 : IVec S_ 1 := cmpi .eq main_v152 main_c_65
  fn_part10 (F := F) main_arg1 main_v4 main_v148 main_values_63 main_v169

def fn_part8 {F : FTy → Type} [FloatOps F] (main_arg1 : FVec F S100000x3 .f32) (main_v4 : IVec S100000 32) (main_v121 : IVec S_ 1) (main_v125 : IVec S_ 32) (main_v136 : FVec F S100000x3 .f32) (main_cst_50 : FVec F S_ .f32) : IVec S_ 1 :=
  let main_v137 : FVec F S100000 .f32 := (fun x v => Host.reduceAdd x v reducesTo_S100000x3_S100000_d1 h_S_) main_v136 main_cst_50
  let main_cst_51 : FVec F S_ .f32 := constant S_ .f32 0x2B8CBCCC#32
  let main_v138 : FVec F S100000 .f32 := broadcastInDim S100000 ![] bcast_S_S100000 main_cst_51
  let main_v139 : FVec F S100000 .f32 := addf main_v137 main_v138
  let main_v140 : FVec F S100000 .f32 := Host.sqrt main_v139
  let main_v141 : FVec F S100000 .f32 := Host.negf main_v140
  let main_values_52 : FVec F S26 .f32 := (fun x => (Host.topK S26 0 (FloatOps.cmpfTotal .gt) x sliceFits_S100000_S26).1) main_v141
  let main_indices_53 : IVec S26 32 := (fun x => (Host.topK S26 0 (FloatOps.cmpfTotal .gt) x sliceFits_S100000_S26).2) main_v141
  let main_c_54 : IVec S_ 32 := constantI S_ 32 0#32
  let main_v142 : IVec S_ 1 := cmpi .eq main_v125 main_c_54
  let main_v143 : FVec F S25 .f32 := (extractStridedSlice S25 ![0] · slices_S26_S25_0) main_values_52
  let main_v144 : FVec F S25 .f32 := (extractStridedSlice S25 ![1] · slices_S26_S25_1) main_values_52
  let main_v145 : IVec S25 1 := cmpf .ogt main_v143 main_v144
  let main_c_55 : IVec S_ 1 := constantI S_ 1 1#1
  let main_v146 : IVec S_ 1 := (fun x v => Host.reduce IntOp.andi x v reducesTo_S25_S_d0 h_S_) main_v145 main_c_55
  let main_v147 : IVec S_ 1 := ori main_v142 main_v146
  let main_v148 : IVec S_ 1 := andi main_v121 main_v147
  let main_c_56 : IVec S_ 32 := constantI S_ 32 13#32
  let main_v149 : IVec S100000 32 := broadcastInDim S100000 ![] bcast_S_S100000 main_c_56
  let main_v150 : IVec S100000 1 := cmpi .eq main_v4 main_v149
  let main_v151 : IVec S100000 32 := (extui 32 · natLt_1_32) main_v150
  let main_c_57 : IVec S_ 32 := constantI S_ 32 0#32
  let main_v152 : IVec S_ 32 := (fun x v => Host.reduce IntOp.addi x v reducesTo_S100000_S_d0 h_S_) main_v151 main_c_57
  let main_c_58 : IVec S_ 32 := constantI S_ 32 1#32
  fn_part9 (F := F) main_arg1 main_v4 main_v148 main_v150 main_v152 main_c_58

def fn_part7 {F : FTy → Type} [FloatOps F] (main_arg1 : FVec F S100000x3 .f32) (main_v4 : IVec S100000 32) (main_v94 : IVec S_ 1) (main_v115 : IVec S_ 1) (main_v118 : IVec S25 1) (main_c_44 : IVec S_ 1) : IVec S_ 1 :=
  let main_v119 : IVec S_ 1 := (fun x v => Host.reduce IntOp.andi x v reducesTo_S25_S_d0 h_S_) main_v118 main_c_44
  let main_v120 : IVec S_ 1 := ori main_v115 main_v119
  let main_v121 : IVec S_ 1 := andi main_v94 main_v120
  let main_c_45 : IVec S_ 32 := constantI S_ 32 12#32
  let main_v122 : IVec S100000 32 := broadcastInDim S100000 ![] bcast_S_S100000 main_c_45
  let main_v123 : IVec S100000 1 := cmpi .eq main_v4 main_v122
  let main_v124 : IVec S100000 32 := (extui 32 · natLt_1_32) main_v123
  let main_c_46 : IVec S_ 32 := constantI S_ 32 0#32
  let main_v125 : IVec S_ 32 := (fun x v => Host.reduce IntOp.addi x v reducesTo_S100000_S_d0 h_S_) main_v124 main_c_46
  let main_c_47 : IVec S_ 32 := constantI S_ 32 1#32
  let main_v126 : IVec S_ 32 := maxsi main_v125 main_c_47
  let main_v127 : FVec F S_ .f32 := sitofp .f32 main_v126
  let main_v128 : IVec S100000x1 1 := broadcastInDim S100000x1 ![0] bcast_S100000_S100000x1_0 main_v123
  let main_cst_48 : FVec F S_ .f32 := constant S_ .f32 0x00000000#32
  let main_v129 : FVec F S100000x3 .f32 := fn_where (F := F) main_v128 main_arg1 main_cst_48
  let main_cst_49 : FVec F S_ .f32 := constant S_ .f32 0x00000000#32
  let main_v130 : FVec F S3 .f32 := (fun x v => Host.reduceAdd x v reducesTo_S100000x3_S3_d0 h_S_) main_v129 main_cst_49
  let main_v131 : FVec F S3 .f32 := broadcastInDim S3 ![] bcast_S_S3 main_v127
  let main_v132 : FVec F S3 .f32 := Host.divf main_v130 main_v131
  let main_v133 : FVec F S1x3 .f32 := broadcastInDim S1x3 ![1] bcast_S3_S1x3_1 main_v132
  let main_v134 : FVec F S100000x3 .f32 := broadcastInDim S100000x3 ![0, 1] bcast_S1x3_S100000x3_0_1 main_v133
  let main_v135 : FVec F S100000x3 .f32 := subf main_arg1 main_v134
  let main_v136 : FVec F S100000x3 .f32 := mulf main_v135 main_v135
  let main_cst_50 : FVec F S_ .f32 := constant S_ .f32 0x00000000#32
  fn_part8 (F := F) main_arg1 main_v4 main_v121 main_v125 main_v136 main_cst_50

def fn_part6 {F : FTy → Type} [FloatOps F] (main_arg1 : FVec F S100000x3 .f32) (main_v4 : IVec S100000 32) (main_v94 : IVec S_ 1) (main_v98 : IVec S_ 32) (main_v100 : FVec F S_ .f32) (main_v101 : IVec S100000x1 1) (main_cst_37 : FVec F S_ .f32) : IVec S_ 1 :=
  let main_v102 : FVec F S100000x3 .f32 := fn_where (F := F) main_v101 main_arg1 main_cst_37
  let main_cst_38 : FVec F S_ .f32 := constant S_ .f32 0x00000000#32
  let main_v103 : FVec F S3 .f32 := (fun x v => Host.reduceAdd x v reducesTo_S100000x3_S3_d0 h_S_) main_v102 main_cst_38
  let main_v104 : FVec F S3 .f32 := broadcastInDim S3 ![] bcast_S_S3 main_v100
  let main_v105 : FVec F S3 .f32 := Host.divf main_v103 main_v104
  let main_v106 : FVec F S1x3 .f32 := broadcastInDim S1x3 ![1] bcast_S3_S1x3_1 main_v105
  let main_v107 : FVec F S100000x3 .f32 := broadcastInDim S100000x3 ![0, 1] bcast_S1x3_S100000x3_0_1 main_v106
  let main_v108 : FVec F S100000x3 .f32 := subf main_arg1 main_v107
  let main_v109 : FVec F S100000x3 .f32 := mulf main_v108 main_v108
  let main_cst_39 : FVec F S_ .f32 := constant S_ .f32 0x00000000#32
  let main_v110 : FVec F S100000 .f32 := (fun x v => Host.reduceAdd x v reducesTo_S100000x3_S100000_d1 h_S_) main_v109 main_cst_39
  let main_cst_40 : FVec F S_ .f32 := constant S_ .f32 0x2B8CBCCC#32
  let main_v111 : FVec F S100000 .f32 := broadcastInDim S100000 ![] bcast_S_S100000 main_cst_40
  let main_v112 : FVec F S100000 .f32 := addf main_v110 main_v111
  let main_v113 : FVec F S100000 .f32 := Host.sqrt main_v112
  let main_v114 : FVec F S100000 .f32 := Host.negf main_v113
  let main_values_41 : FVec F S26 .f32 := (fun x => (Host.topK S26 0 (FloatOps.cmpfTotal .gt) x sliceFits_S100000_S26).1) main_v114
  let main_indices_42 : IVec S26 32 := (fun x => (Host.topK S26 0 (FloatOps.cmpfTotal .gt) x sliceFits_S100000_S26).2) main_v114
  let main_c_43 : IVec S_ 32 := constantI S_ 32 0#32
  let main_v115 : IVec S_ 1 := cmpi .eq main_v98 main_c_43
  let main_v116 : FVec F S25 .f32 := (extractStridedSlice S25 ![0] · slices_S26_S25_0) main_values_41
  let main_v117 : FVec F S25 .f32 := (extractStridedSlice S25 ![1] · slices_S26_S25_1) main_values_41
  let main_v118 : IVec S25 1 := cmpf .ogt main_v116 main_v117
  let main_c_44 : IVec S_ 1 := constantI S_ 1 1#1
  fn_part7 (F := F) main_arg1 main_v4 main_v94 main_v115 main_v118 main_c_44

def fn_part5 {F : FTy → Type} [FloatOps F] (main_arg1 : FVec F S100000x3 .f32) (main_v4 : IVec S100000 32) (main_v67 : IVec S_ 1) (main_v71 : IVec S_ 32) (main_v85 : FVec F S100000 .f32) : IVec S_ 1 :=
  let main_v86 : FVec F S100000 .f32 := Host.sqrt main_v85
  let main_v87 : FVec F S100000 .f32 := Host.negf main_v86
  let main_values_30 : FVec F S26 .f32 := (fun x => (Host.topK S26 0 (FloatOps.cmpfTotal .gt) x sliceFits_S100000_S26).1) main_v87
  let main_indices_31 : IVec S26 32 := (fun x => (Host.topK S26 0 (FloatOps.cmpfTotal .gt) x sliceFits_S100000_S26).2) main_v87
  let main_c_32 : IVec S_ 32 := constantI S_ 32 0#32
  let main_v88 : IVec S_ 1 := cmpi .eq main_v71 main_c_32
  let main_v89 : FVec F S25 .f32 := (extractStridedSlice S25 ![0] · slices_S26_S25_0) main_values_30
  let main_v90 : FVec F S25 .f32 := (extractStridedSlice S25 ![1] · slices_S26_S25_1) main_values_30
  let main_v91 : IVec S25 1 := cmpf .ogt main_v89 main_v90
  let main_c_33 : IVec S_ 1 := constantI S_ 1 1#1
  let main_v92 : IVec S_ 1 := (fun x v => Host.reduce IntOp.andi x v reducesTo_S25_S_d0 h_S_) main_v91 main_c_33
  let main_v93 : IVec S_ 1 := ori main_v88 main_v92
  let main_v94 : IVec S_ 1 := andi main_v67 main_v93
  let main_c_34 : IVec S_ 32 := constantI S_ 32 11#32
  let main_v95 : IVec S100000 32 := broadcastInDim S100000 ![] bcast_S_S100000 main_c_34
  let main_v96 : IVec S100000 1 := cmpi .eq main_v4 main_v95
  let main_v97 : IVec S100000 32 := (extui 32 · natLt_1_32) main_v96
  let main_c_35 : IVec S_ 32 := constantI S_ 32 0#32
  let main_v98 : IVec S_ 32 := (fun x v => Host.reduce IntOp.addi x v reducesTo_S100000_S_d0 h_S_) main_v97 main_c_35
  let main_c_36 : IVec S_ 32 := constantI S_ 32 1#32
  let main_v99 : IVec S_ 32 := maxsi main_v98 main_c_36
  let main_v100 : FVec F S_ .f32 := sitofp .f32 main_v99
  let main_v101 : IVec S100000x1 1 := broadcastInDim S100000x1 ![0] bcast_S100000_S100000x1_0 main_v96
  let main_cst_37 : FVec F S_ .f32 := constant S_ .f32 0x00000000#32
  fn_part6 (F := F) main_arg1 main_v4 main_v94 main_v98 main_v100 main_v101 main_cst_37

def fn_part4 {F : FTy → Type} [FloatOps F] (main_arg1 : FVec F S100000x3 .f32) (main_v4 : IVec S100000 32) (main_v67 : IVec S_ 1) (main_c_23 : IVec S_ 32) : IVec S_ 1 :=
  let main_v68 : IVec S100000 32 := broadcastInDim S100000 ![] bcast_S_S100000 main_c_23
  let main_v69 : IVec S100000 1 := cmpi .eq main_v4 main_v68
  let main_v70 : IVec S100000 32 := (extui 32 · natLt_1_32) main_v69
  let main_c_24 : IVec S_ 32 := constantI S_ 32 0#32
  let main_v71 : IVec S_ 32 := (fun x v => Host.reduce IntOp.addi x v reducesTo_S100000_S_d0 h_S_) main_v70 main_c_24
  let main_c_25 : IVec S_ 32 := constantI S_ 32 1#32
  let main_v72 : IVec S_ 32 := maxsi main_v71 main_c_25
  let main_v73 : FVec F S_ .f32 := sitofp .f32 main_v72
  let main_v74 : IVec S100000x1 1 := broadcastInDim S100000x1 ![0] bcast_S100000_S100000x1_0 main_v69
  let main_cst_26 : FVec F S_ .f32 := constant S_ .f32 0x00000000#32
  let main_v75 : FVec F S100000x3 .f32 := fn_where (F := F) main_v74 main_arg1 main_cst_26
  let main_cst_27 : FVec F S_ .f32 := constant S_ .f32 0x00000000#32
  let main_v76 : FVec F S3 .f32 := (fun x v => Host.reduceAdd x v reducesTo_S100000x3_S3_d0 h_S_) main_v75 main_cst_27
  let main_v77 : FVec F S3 .f32 := broadcastInDim S3 ![] bcast_S_S3 main_v73
  let main_v78 : FVec F S3 .f32 := Host.divf main_v76 main_v77
  let main_v79 : FVec F S1x3 .f32 := broadcastInDim S1x3 ![1] bcast_S3_S1x3_1 main_v78
  let main_v80 : FVec F S100000x3 .f32 := broadcastInDim S100000x3 ![0, 1] bcast_S1x3_S100000x3_0_1 main_v79
  let main_v81 : FVec F S100000x3 .f32 := subf main_arg1 main_v80
  let main_v82 : FVec F S100000x3 .f32 := mulf main_v81 main_v81
  let main_cst_28 : FVec F S_ .f32 := constant S_ .f32 0x00000000#32
  let main_v83 : FVec F S100000 .f32 := (fun x v => Host.reduceAdd x v reducesTo_S100000x3_S100000_d1 h_S_) main_v82 main_cst_28
  let main_cst_29 : FVec F S_ .f32 := constant S_ .f32 0x2B8CBCCC#32
  let main_v84 : FVec F S100000 .f32 := broadcastInDim S100000 ![] bcast_S_S100000 main_cst_29
  let main_v85 : FVec F S100000 .f32 := addf main_v83 main_v84
  fn_part5 (F := F) main_arg1 main_v4 main_v67 main_v71 main_v85

def fn_part3 {F : FTy → Type} [FloatOps F] (main_arg1 : FVec F S100000x3 .f32) (main_v4 : IVec S100000 32) (main_v40 : IVec S_ 1) (main_v44 : IVec S_ 32) (main_v49 : FVec F S3 .f32) (main_v50 : FVec F S3 .f32) : IVec S_ 1 :=
  let main_v51 : FVec F S3 .f32 := Host.divf main_v49 main_v50
  let main_v52 : FVec F S1x3 .f32 := broadcastInDim S1x3 ![1] bcast_S3_S1x3_1 main_v51
  let main_v53 : FVec F S100000x3 .f32 := broadcastInDim S100000x3 ![0, 1] bcast_S1x3_S100000x3_0_1 main_v52
  let main_v54 : FVec F S100000x3 .f32 := subf main_arg1 main_v53
  let main_v55 : FVec F S100000x3 .f32 := mulf main_v54 main_v54
  let main_cst_17 : FVec F S_ .f32 := constant S_ .f32 0x00000000#32
  let main_v56 : FVec F S100000 .f32 := (fun x v => Host.reduceAdd x v reducesTo_S100000x3_S100000_d1 h_S_) main_v55 main_cst_17
  let main_cst_18 : FVec F S_ .f32 := constant S_ .f32 0x2B8CBCCC#32
  let main_v57 : FVec F S100000 .f32 := broadcastInDim S100000 ![] bcast_S_S100000 main_cst_18
  let main_v58 : FVec F S100000 .f32 := addf main_v56 main_v57
  let main_v59 : FVec F S100000 .f32 := Host.sqrt main_v58
  let main_v60 : FVec F S100000 .f32 := Host.negf main_v59
  let main_values_19 : FVec F S26 .f32 := (fun x => (Host.topK S26 0 (FloatOps.cmpfTotal .gt) x sliceFits_S100000_S26).1) main_v60
  let main_indices_20 : IVec S26 32 := (fun x => (Host.topK S26 0 (FloatOps.cmpfTotal .gt) x sliceFits_S100000_S26).2) main_v60
  let main_c_21 : IVec S_ 32 := constantI S_ 32 0#32
  let main_v61 : IVec S_ 1 := cmpi .eq main_v44 main_c_21
  let main_v62 : FVec F S25 .f32 := (extractStridedSlice S25 ![0] · slices_S26_S25_0) main_values_19
  let main_v63 : FVec F S25 .f32 := (extractStridedSlice S25 ![1] · slices_S26_S25_1) main_values_19
  let main_v64 : IVec S25 1 := cmpf .ogt main_v62 main_v63
  let main_c_22 : IVec S_ 1 := constantI S_ 1 1#1
  let main_v65 : IVec S_ 1 := (fun x v => Host.reduce IntOp.andi x v reducesTo_S25_S_d0 h_S_) main_v64 main_c_22
  let main_v66 : IVec S_ 1 := ori main_v61 main_v65
  let main_v67 : IVec S_ 1 := andi main_v40 main_v66
  let main_c_23 : IVec S_ 32 := constantI S_ 32 10#32
  fn_part4 (F := F) main_arg1 main_v4 main_v67 main_c_23

def fn_part2 {F : FTy → Type} [FloatOps F] (main_arg1 : FVec F S100000x3 .f32) (main_v4 : IVec S100000 32) (main_v13 : IVec S_ 1) (main_v17 : IVec S_ 32) (main_values : FVec F S26 .f32) : IVec S_ 1 :=
  let main_c_10 : IVec S_ 32 := constantI S_ 32 0#32
  let main_v34 : IVec S_ 1 := cmpi .eq main_v17 main_c_10
  let main_v35 : FVec F S25 .f32 := (extractStridedSlice S25 ![0] · slices_S26_S25_0) main_values
  let main_v36 : FVec F S25 .f32 := (extractStridedSlice S25 ![1] · slices_S26_S25_1) main_values
  let main_v37 : IVec S25 1 := cmpf .ogt main_v35 main_v36
  let main_c_11 : IVec S_ 1 := constantI S_ 1 1#1
  let main_v38 : IVec S_ 1 := (fun x v => Host.reduce IntOp.andi x v reducesTo_S25_S_d0 h_S_) main_v37 main_c_11
  let main_v39 : IVec S_ 1 := ori main_v34 main_v38
  let main_v40 : IVec S_ 1 := andi main_v13 main_v39
  let main_c_12 : IVec S_ 32 := constantI S_ 32 9#32
  let main_v41 : IVec S100000 32 := broadcastInDim S100000 ![] bcast_S_S100000 main_c_12
  let main_v42 : IVec S100000 1 := cmpi .eq main_v4 main_v41
  let main_v43 : IVec S100000 32 := (extui 32 · natLt_1_32) main_v42
  let main_c_13 : IVec S_ 32 := constantI S_ 32 0#32
  let main_v44 : IVec S_ 32 := (fun x v => Host.reduce IntOp.addi x v reducesTo_S100000_S_d0 h_S_) main_v43 main_c_13
  let main_c_14 : IVec S_ 32 := constantI S_ 32 1#32
  let main_v45 : IVec S_ 32 := maxsi main_v44 main_c_14
  let main_v46 : FVec F S_ .f32 := sitofp .f32 main_v45
  let main_v47 : IVec S100000x1 1 := broadcastInDim S100000x1 ![0] bcast_S100000_S100000x1_0 main_v42
  let main_cst_15 : FVec F S_ .f32 := constant S_ .f32 0x00000000#32
  let main_v48 : FVec F S100000x3 .f32 := fn_where (F := F) main_v47 main_arg1 main_cst_15
  let main_cst_16 : FVec F S_ .f32 := constant S_ .f32 0x00000000#32
  let main_v49 : FVec F S3 .f32 := (fun x v => Host.reduceAdd x v reducesTo_S100000x3_S3_d0 h_S_) main_v48 main_cst_16
  let main_v50 : FVec F S3 .f32 := broadcastInDim S3 ![] bcast_S_S3 main_v46
  fn_part3 (F := F) main_arg1 main_v4 main_v40 main_v44 main_v49 main_v50

def fn_part1 {F : FTy → Type} [FloatOps F] (main_arg1 : FVec F S100000x3 .f32) (main_v4 : IVec S100000 32) (main_v13 : IVec S_ 1) (main_v15 : IVec S100000 1) (main_v16 : IVec S100000 32) (main_c_4 : IVec S_ 32) : IVec S_ 1 :=
  let main_v17 : IVec S_ 32 := (fun x v => Host.reduce IntOp.addi x v reducesTo_S100000_S_d0 h_S_) main_v16 main_c_4
  let main_c_5 : IVec S_ 32 := constantI S_ 32 1#32
  let main_v18 : IVec S_ 32 := maxsi main_v17 main_c_5
  let main_v19 : FVec F S_ .f32 := sitofp .f32 main_v18
  let main_v20 : IVec S100000x1 1 := broadcastInDim S100000x1 ![0] bcast_S100000_S100000x1_0 main_v15
  let main_cst_6 : FVec F S_ .f32 := constant S_ .f32 0x00000000#32
  let main_v21 : FVec F S100000x3 .f32 := fn_where (F := F) main_v20 main_arg1 main_cst_6
  let main_cst_7 : FVec F S_ .f32 := constant S_ .f32 0x00000000#32
  let main_v22 : FVec F S3 .f32 := (fun x v => Host.reduceAdd x v reducesTo_S100000x3_S3_d0 h_S_) main_v21 main_cst_7
  let main_v23 : FVec F S3 .f32 := broadcastInDim S3 ![] bcast_S_S3 main_v19
  let main_v24 : FVec F S3 .f32 := Host.divf main_v22 main_v23
  let main_v25 : FVec F S1x3 .f32 := broadcastInDim S1x3 ![1] bcast_S3_S1x3_1 main_v24
  let main_v26 : FVec F S100000x3 .f32 := broadcastInDim S100000x3 ![0, 1] bcast_S1x3_S100000x3_0_1 main_v25
  let main_v27 : FVec F S100000x3 .f32 := subf main_arg1 main_v26
  let main_v28 : FVec F S100000x3 .f32 := mulf main_v27 main_v27
  let main_cst_8 : FVec F S_ .f32 := constant S_ .f32 0x00000000#32
  let main_v29 : FVec F S100000 .f32 := (fun x v => Host.reduceAdd x v reducesTo_S100000x3_S100000_d1 h_S_) main_v28 main_cst_8
  let main_cst_9 : FVec F S_ .f32 := constant S_ .f32 0x2B8CBCCC#32
  let main_v30 : FVec F S100000 .f32 := broadcastInDim S100000 ![] bcast_S_S100000 main_cst_9
  let main_v31 : FVec F S100000 .f32 := addf main_v29 main_v30
  let main_v32 : FVec F S100000 .f32 := Host.sqrt main_v31
  let main_v33 : FVec F S100000 .f32 := Host.negf main_v32
  let main_values : FVec F S26 .f32 := (fun x => (Host.topK S26 0 (FloatOps.cmpfTotal .gt) x sliceFits_S100000_S26).1) main_v33
  let main_indices : IVec S26 32 := (fun x => (Host.topK S26 0 (FloatOps.cmpfTotal .gt) x sliceFits_S100000_S26).2) main_v33
  fn_part2 (F := F) main_arg1 main_v4 main_v13 main_v17 main_values

def fn {F : FTy → Type} [FloatOps F] (main_arg0 : FVec F S100000x512 .f32) (main_arg1 : FVec F S100000x3 .f32) (main_arg2 : FVec F S512x20 .f32) (main_arg3 : FVec F S20 .f32) : IVec S_ 1 :=
  let main_v0 : FVec F S100000x20 .f32 := (fun l r => Host.dotGeneral dot_S100000x512_S512x20_S100000x20_1_0_0_1_n_n none l r) main_arg0 main_arg2
  let main_v1 : FVec F S1x20 .f32 := broadcastInDim S1x20 ![1] bcast_S20_S1x20_1 main_arg3
  let main_v2 : FVec F S100000x20 .f32 := broadcastInDim S100000x20 ![0, 1] bcast_S1x20_S100000x20_0_1 main_v1
  let main_v3 : FVec F S100000x20 .f32 := addf main_v0 main_v2
  let main_v4 : IVec S100000 32 := fn_argmax (F := F) main_v3
  let main_cst : FVec F S_ .f32 := constant S_ .f32 0xFF800000#32
  let main_v5 : FVec F S100000 .f32 := (fun x v => Host.reduce FloatOps.maximumf x v reducesTo_S100000x20_S100000_d1 h_S_) main_v3 main_cst
  let main_cst_0 : FVec F S_ .f32 := constant S_ .f32 0xF149F2CA#32
  let main_v6 : FVec F S100000 .f32 := broadcastInDim S100000 ![] bcast_S_S100000 main_cst_0
  let main_v7 : IVec S100000 1 := cmpf .oge main_v5 main_v6
  let main_c : IVec S_ 1 := constantI S_ 1 1#1
  let main_v8 : IVec S_ 1 := (fun x v => Host.reduce IntOp.andi x v reducesTo_S100000_S_d0 h_S_) main_v7 main_c
  let main_v9 : FVec F S100000x3 .f32 := Host.absf main_arg1
  let main_cst_1 : FVec F S_ .f32 := constant S_ .f32 0x48927C00#32
  let main_v10 : FVec F S100000x3 .f32 := broadcastInDim S100000x3 ![] bcast_S_S100000x3 main_cst_1
  let main_v11 : IVec S100000x3 1 := cmpf .ole main_v9 main_v10
  let main_c_2 : IVec S_ 1 := constantI S_ 1 1#1
  let main_v12 : IVec S_ 1 := (fun x v => Host.reduce IntOp.andi x v reducesTo_S100000x3_S_d0_1 h_S_) main_v11 main_c_2
  let main_v13 : IVec S_ 1 := andi main_v8 main_v12
  let main_c_3 : IVec S_ 32 := constantI S_ 32 8#32
  let main_v14 : IVec S100000 32 := broadcastInDim S100000 ![] bcast_S_S100000 main_c_3
  let main_v15 : IVec S100000 1 := cmpi .eq main_v4 main_v14
  let main_v16 : IVec S100000 32 := (extui 32 · natLt_1_32) main_v15
  let main_c_4 : IVec S_ 32 := constantI S_ 32 0#32
  fn_part1 (F := F) main_arg1 main_v4 main_v13 main_v15 main_v16 main_c_4
-- ==== Kernel.lean ====
abbrev S100000x512 : Shape := ⟨2, ![100000, 512]⟩
abbrev S100000x3 : Shape := ⟨2, ![100000, 3]⟩
abbrev S512x20 : Shape := ⟨2, ![512, 20]⟩
abbrev S20 : Shape := ⟨1, ![20]⟩
abbrev S_ : Shape := ⟨0, ![]⟩
abbrev S512x32 : Shape := ⟨2, ![512, 32]⟩
abbrev S1x20 : Shape := ⟨2, ![1, 20]⟩
abbrev S1x32 : Shape := ⟨2, ![1, 32]⟩
abbrev S100000x20 : Shape := ⟨2, ![100000, 20]⟩
abbrev S100000x1 : Shape := ⟨2, ![100000, 1]⟩
abbrev S2000x512 : Shape := ⟨2, ![2000, 512]⟩
abbrev S2000x20 : Shape := ⟨2, ![2000, 20]⟩
abbrev S2000x1 : Shape := ⟨2, ![2000, 1]⟩
abbrev S2000x32 : Shape := ⟨2, ![2000, 32]⟩
abbrev S2000 : Shape := ⟨1, ![2000]⟩
abbrev S352 : Shape := ⟨1, ![352]⟩
abbrev S100000 : Shape := ⟨1, ![100000]⟩
abbrev S100352 : Shape := ⟨1, ![100352]⟩
abbrev S784x128 : Shape := ⟨2, ![784, 128]⟩
abbrev S1x784x128 : Shape := ⟨3, ![1, 784, 128]⟩
abbrev S1 : Shape := ⟨1, ![1]⟩
abbrev S1x1x1 : Shape := ⟨3, ![1, 1, 1]⟩

abbrev nBuf : Space → Nat
  | .hbm => 37
  | .vmem => 19
  | .smem => 0
  | _ => 0

abbrev bufTy : (tb : Table) → Fin (tcTables nBuf tb) → BufTy
  | .hbm, ⟨0, _⟩ => ⟨S100000x512, .f32⟩
  | .hbm, ⟨1, _⟩ => ⟨S100000x3, .f32⟩
  | .hbm, ⟨2, _⟩ => ⟨S512x20, .f32⟩
  | .hbm, ⟨3, _⟩ => ⟨S20, .f32⟩
  | .hbm, ⟨4, _⟩ => ⟨S_, .i32⟩
  | .hbm, ⟨5, _⟩ => ⟨S_, .f32⟩
  | .hbm, ⟨6, _⟩ => ⟨S512x32, .f32⟩
  | .hbm, ⟨7, _⟩ => ⟨S1x20, .f32⟩
  | .hbm, ⟨8, _⟩ => ⟨S_, .f32⟩
  | .hbm, ⟨9, _⟩ => ⟨S_, .f32⟩
  | .hbm, ⟨10, _⟩ => ⟨S1x32, .f32⟩
  | .hbm, ⟨11, _⟩ => ⟨S100000x20, .f32⟩
  | .hbm, ⟨12, _⟩ => ⟨S100000x1, .i32⟩
  | .hbm, ⟨13, _⟩ => ⟨S_, .f32⟩
  | .hbm, ⟨14, _⟩ => ⟨S352, .f32⟩
  | .hbm, ⟨15, _⟩ => ⟨S100000x1, .f32⟩
  | .hbm, ⟨16, _⟩ => ⟨S100000, .f32⟩
  | .hbm, ⟨17, _⟩ => ⟨S100352, .f32⟩
  | .hbm, ⟨18, _⟩ => ⟨S784x128, .f32⟩
  | .hbm, ⟨19, _⟩ => ⟨S100000x1, .f32⟩
  | .hbm, ⟨20, _⟩ => ⟨S100000, .f32⟩
  | .hbm, ⟨21, _⟩ => ⟨S100352, .f32⟩
  | .hbm, ⟨22, _⟩ => ⟨S784x128, .f32⟩
  | .hbm, ⟨23, _⟩ => ⟨S100000x1, .f32⟩
  | .hbm, ⟨24, _⟩ => ⟨S100000, .f32⟩
  | .hbm, ⟨25, _⟩ => ⟨S100352, .f32⟩
  | .hbm, ⟨26, _⟩ => ⟨S784x128, .f32⟩
  | .hbm, ⟨27, _⟩ => ⟨S100000, .i32⟩
  | .hbm, ⟨28, _⟩ => ⟨S_, .i32⟩
  | .hbm, ⟨29, _⟩ => ⟨S352, .i32⟩
  | .hbm, ⟨30, _⟩ => ⟨S100352, .i32⟩
  | .hbm, ⟨31, _⟩ => ⟨S784x128, .i32⟩
  | .hbm, ⟨32, _⟩ => ⟨S784x128, .f32⟩
  | .hbm, ⟨33, _⟩ => ⟨S100352, .f32⟩
  | .hbm, ⟨34, _⟩ => ⟨S100000, .f32⟩
  | .hbm, ⟨35, _⟩ => ⟨S100000x1, .f32⟩
  | .hbm, ⟨36, _⟩ => ⟨S100000x20, .f32⟩
  | .local _ .vmem, ⟨0, _⟩ => ⟨S2000x512, .f32⟩
  | .local _ .vmem, ⟨1, _⟩ => ⟨S2000x512, .f32⟩
  | .local _ .vmem, ⟨2, _⟩ => ⟨S512x32, .f32⟩
  | .local _ .vmem, ⟨3, _⟩ => ⟨S1x32, .f32⟩
  | .local _ .vmem, ⟨4, _⟩ => ⟨S2000x20, .f32⟩
  | .local _ .vmem, ⟨5, _⟩ => ⟨S2000x20, .f32⟩
  | .local _ .vmem, ⟨6, _⟩ => ⟨S2000x1, .i32⟩
  | .local _ .vmem, ⟨7, _⟩ => ⟨S2000x1, .i32⟩
  | .local _ .vmem, ⟨8, _⟩ => ⟨S784x128, .f32⟩
  | .local _ .vmem, ⟨9, _⟩ => ⟨S784x128, .f32⟩
  | .local _ .vmem, ⟨10, _⟩ => ⟨S784x128, .f32⟩
  | .local _ .vmem, ⟨11, _⟩ => ⟨S784x128, .i32⟩
  | .local _ .vmem, ⟨12, _⟩ => ⟨S784x128, .f32⟩
  | .local _ .vmem, ⟨13, _⟩ => ⟨S2000x20, .f32⟩
  | .local _ .vmem, ⟨14, _⟩ => ⟨S2000x20, .f32⟩
  | .local _ .vmem, ⟨15, _⟩ => ⟨S2000x1, .f32⟩
  | .local _ .vmem, ⟨16, _⟩ => ⟨S2000x1, .f32⟩
  | .local _ .vmem, ⟨17, _⟩ => ⟨S2000x20, .f32⟩
  | .local _ .vmem, ⟨18, _⟩ => ⟨S2000x20, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_call1_v0 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S784x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S784x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S784x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S784x128 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S784x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x20 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x20 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S100000x512 : Shape := ⟨2, ![100000, 512]⟩
abbrev S100000x3 : Shape := ⟨2, ![100000, 3]⟩
abbrev S512x20 : Shape := ⟨2, ![512, 20]⟩
abbrev S20 : Shape := ⟨1, ![20]⟩
abbrev S100000x20 : Shape := ⟨2, ![100000, 20]⟩
abbrev S1x20 : Shape := ⟨2, ![1, 20]⟩
abbrev S_ : Shape := ⟨0, ![]⟩
abbrev S100000 : Shape := ⟨1, ![100000]⟩
abbrev S1 : Shape := ⟨1, ![1]⟩
abbrev S100000x1 : Shape := ⟨2, ![100000, 1]⟩
abbrev S3 : Shape := ⟨1, ![3]⟩
abbrev S1x3 : Shape := ⟨2, ![1, 3]⟩
abbrev S25 : Shape := ⟨1, ![25]⟩
abbrev S25x1 : Shape := ⟨2, ![25, 1]⟩

abbrev nBuf : Space → Nat
  | .hbm => 435
  | .vmem => 0
  | .smem => 0
  | _ => 0

abbrev hbmTy0_0 (i : Nat) : BufTy := match i % 128 with
  | 0 => ⟨S100000x512, .f32⟩
  | 1 => ⟨S100000x3, .f32⟩
  | 2 => ⟨S512x20, .f32⟩
  | 3 => ⟨S20, .f32⟩
  | 4 => ⟨S100000x20, .f32⟩
  | 5 => ⟨S1x20, .f32⟩
  | 6 => ⟨S100000x20, .f32⟩
  | 7 => ⟨S100000x20, .f32⟩
  | 8 => ⟨S100000x20, .i32⟩
  | 9 => ⟨S_, .f32⟩
  | 10 => ⟨S_, .i32⟩
  | 11 => ⟨S100000, .f32⟩
  | 12 => ⟨S100000, .i32⟩
  | 13 => ⟨S_, .f32⟩
  | 14 => ⟨S20, .f32⟩
  | 15 => ⟨S_, .i32⟩
  | 16 => ⟨S1, .i32⟩
  | 17 => ⟨S_, .f32⟩
  | 18 => ⟨S20, .f32⟩
  | 19 => ⟨S_, .i32⟩
  | 20 => ⟨S100000, .i32⟩
  | 21 => ⟨S100000, .i1⟩
  | 22 => ⟨S100000, .i32⟩
  | 23 => ⟨S_, .i32⟩
  | 24 => ⟨S_, .i32⟩
  | 25 => ⟨S_, .i32⟩
  | 26 => ⟨S_, .i32⟩
  | 27 => ⟨S_, .f32⟩
  | 28 => ⟨S100000x1, .i1⟩
  | 29 => ⟨S_, .f32⟩
  | 30 => ⟨S_, .f32⟩
  | 31 => ⟨S100000x3, .i1⟩
  | 32 => ⟨S100000x3, .f32⟩
  | 33 => ⟨S100000x3, .f32⟩
  | 34 => ⟨S_, .f32⟩
  | 35 => ⟨S3, .f32⟩
  | 36 => ⟨S3, .f32⟩
  | 37 => ⟨S3, .f32⟩
  | 38 => ⟨S1x3, .f32⟩
  | 39 => ⟨S100000x3, .f32⟩
  | 40 => ⟨S100000x3, .f32⟩
  | 41 => ⟨S100000x3, .f32⟩
  | 42 => ⟨S_, .f32⟩
  | 43 => ⟨S100000, .f32⟩
  | 44 => ⟨S_, .f32⟩
  | 45 => ⟨S100000, .f32⟩
  | 46 => ⟨S100000, .f32⟩
  | 47 => ⟨S100000, .f32⟩
  | 48 => ⟨S100000, .f32⟩
  | 49 => ⟨S25, .f32⟩
  | 50 => ⟨S25, .i32⟩
  | 51 => ⟨S_, .i1⟩
  | 52 => ⟨S100000, .i1⟩
  | 53 => ⟨S_, .i32⟩
  | 54 => ⟨S25, .i32⟩
  | 55 => ⟨S25, .i1⟩
  | 56 => ⟨S_, .i32⟩
  | 57 => ⟨S25, .i32⟩
  | 58 => ⟨S25, .i32⟩
  | 59 => ⟨S25, .i32⟩
  | 60 => ⟨S25x1, .i32⟩
  | 61 => ⟨S_, .i1⟩
  | 62 => ⟨S25, .i1⟩
  | 63 => ⟨S100000, .i1⟩
  | 64 => ⟨S100000, .i1⟩
  | 65 => ⟨S100000, .i1⟩
  | 66 => ⟨S100000x1, .i1⟩
  | 67 => ⟨S1x20, .f32⟩
  | 68 => ⟨S100000x20, .i1⟩
  | 69 => ⟨S100000x20, .f32⟩
  | 70 => ⟨S100000x20, .f32⟩
  | 71 => ⟨S_, .i32⟩
  | 72 => ⟨S100000, .i32⟩
  | 73 => ⟨S100000, .i1⟩
  | 74 => ⟨S100000, .i32⟩
  | 75 => ⟨S_, .i32⟩
  | 76 => ⟨S_, .i32⟩
  | 77 => ⟨S_, .i32⟩
  | 78 => ⟨S_, .i32⟩
  | 79 => ⟨S_, .f32⟩
  | 80 => ⟨S100000x1, .i1⟩
  | 81 => ⟨S_, .f32⟩
  | 82 => ⟨S_, .f32⟩
  | 83 => ⟨S100000x3, .i1⟩
  | 84 => ⟨S100000x3, .f32⟩
  | 85 => ⟨S100000x3, .f32⟩
  | 86 => ⟨S_, .f32⟩
  | 87 => ⟨S3, .f32⟩
  | 88 => ⟨S3, .f32⟩
  | 89 => ⟨S3, .f32⟩
  | 90 => ⟨S1x3, .f32⟩
  | 91 => ⟨S100000x3, .f32⟩
  | 92 => ⟨S100000x3, .f32⟩
  | 93 => ⟨S100000x3, .f32⟩
  | 94 => ⟨S_, .f32⟩
  | 95 => ⟨S100000, .f32⟩
  | 96 => ⟨S_, .f32⟩
  | 97 => ⟨S100000, .f32⟩
  | 98 => ⟨S100000, .f32⟩
  | 99 => ⟨S100000, .f32⟩
  | 100 => ⟨S100000, .f32⟩
  | 101 => ⟨S25, .f32⟩
  | 102 => ⟨S25, .i32⟩
  | 103 => ⟨S_, .i1⟩
  | 104 => ⟨S100000, .i1⟩
  | 105 => ⟨S_, .i32⟩
  | 106 => ⟨S25, .i32⟩
  | 107 => ⟨S25, .i1⟩
  | 108 => ⟨S_, .i32⟩
  | 109 => ⟨S25, .i32⟩
  | 110 => ⟨S25, .i32⟩
  | 111 => ⟨S25, .i32⟩
  | 112 => ⟨S25x1, .i32⟩
  | 113 => ⟨S_, .i1⟩
  | 114 => ⟨S25, .i1⟩
  | 115 => ⟨S100000, .i1⟩
  | 116 => ⟨S100000, .i1⟩
  | 117 => ⟨S100000, .i1⟩
  | 118 => ⟨S100000x1, .i1⟩
  | 119 => ⟨S1x20, .f32⟩
  | 120 => ⟨S100000x20, .i1⟩
  | 121 => ⟨S100000x20, .f32⟩
  | 122 => ⟨S100000x20, .f32⟩
  | 123 => ⟨S_, .i32⟩
  | 124 => ⟨S100000, .i32⟩
  | 125 => ⟨S100000, .i1⟩
  | 126 => ⟨S100000, .i32⟩
  | 127 => ⟨S_, .i32⟩
  | _ => ⟨S100000x512, .f32⟩

abbrev hbmTy0_1 (i : Nat) : BufTy := match i % 128 with
  | 0 => ⟨S_, .i32⟩
  | 1 => ⟨S_, .i32⟩
  | 2 => ⟨S_, .i32⟩
  | 3 => ⟨S_, .f32⟩
  | 4 => ⟨S100000x1, .i1⟩
  | 5 => ⟨S_, .f32⟩
  | 6 => ⟨S_, .f32⟩
  | 7 => ⟨S100000x3, .i1⟩
  | 8 => ⟨S100000x3, .f32⟩
  | 9 => ⟨S100000x3, .f32⟩
  | 10 => ⟨S_, .f32⟩
  | 11 => ⟨S3, .f32⟩
  | 12 => ⟨S3, .f32⟩
  | 13 => ⟨S3, .f32⟩
  | 14 => ⟨S1x3, .f32⟩
  | 15 => ⟨S100000x3, .f32⟩
  | 16 => ⟨S100000x3, .f32⟩
  | 17 => ⟨S100000x3, .f32⟩
  | 18 => ⟨S_, .f32⟩
  | 19 => ⟨S100000, .f32⟩
  | 20 => ⟨S_, .f32⟩
  | 21 => ⟨S100000, .f32⟩
  | 22 => ⟨S100000, .f32⟩
  | 23 => ⟨S100000, .f32⟩
  | 24 => ⟨S100000, .f32⟩
  | 25 => ⟨S25, .f32⟩
  | 26 => ⟨S25, .i32⟩
  | 27 => ⟨S_, .i1⟩
  | 28 => ⟨S100000, .i1⟩
  | 29 => ⟨S_, .i32⟩
  | 30 => ⟨S25, .i32⟩
  | 31 => ⟨S25, .i1⟩
  | 32 => ⟨S_, .i32⟩
  | 33 => ⟨S25, .i32⟩
  | 34 => ⟨S25, .i32⟩
  | 35 => ⟨S25, .i32⟩
  | 36 => ⟨S25x1, .i32⟩
  | 37 => ⟨S_, .i1⟩
  | 38 => ⟨S25, .i1⟩
  | 39 => ⟨S100000, .i1⟩
  | 40 => ⟨S100000, .i1⟩
  | 41 => ⟨S100000, .i1⟩
  | 42 => ⟨S100000x1, .i1⟩
  | 43 => ⟨S1x20, .f32⟩
  | 44 => ⟨S100000x20, .i1⟩
  | 45 => ⟨S100000x20, .f32⟩
  | 46 => ⟨S100000x20, .f32⟩
  | 47 => ⟨S_, .i32⟩
  | 48 => ⟨S100000, .i32⟩
  | 49 => ⟨S100000, .i1⟩
  | 50 => ⟨S100000, .i32⟩
  | 51 => ⟨S_, .i32⟩
  | 52 => ⟨S_, .i32⟩
  | 53 => ⟨S_, .i32⟩
  | 54 => ⟨S_, .i32⟩
  | 55 => ⟨S_, .f32⟩
  | 56 => ⟨S100000x1, .i1⟩
  | 57 => ⟨S_, .f32⟩
  | 58 => ⟨S_, .f32⟩
  | 59 => ⟨S100000x3, .i1⟩
  | 60 => ⟨S100000x3, .f32⟩
  | 61 => ⟨S100000x3, .f32⟩
  | 62 => ⟨S_, .f32⟩
  | 63 => ⟨S3, .f32⟩
  | 64 => ⟨S3, .f32⟩
  | 65 => ⟨S3, .f32⟩
  | 66 => ⟨S1x3, .f32⟩
  | 67 => ⟨S100000x3, .f32⟩
  | 68 => ⟨S100000x3, .f32⟩
  | 69 => ⟨S100000x3, .f32⟩
  | 70 => ⟨S_, .f32⟩
  | 71 => ⟨S100000, .f32⟩
  | 72 => ⟨S_, .f32⟩
  | 73 => ⟨S100000, .f32⟩
  | 74 => ⟨S100000, .f32⟩
  | 75 => ⟨S100000, .f32⟩
  | 76 => ⟨S100000, .f32⟩
  | 77 => ⟨S25, .f32⟩
  | 78 => ⟨S25, .i32⟩
  | 79 => ⟨S_, .i1⟩
  | 80 => ⟨S100000, .i1⟩
  | 81 => ⟨S_, .i32⟩
  | 82 => ⟨S25, .i32⟩
  | 83 => ⟨S25, .i1⟩
  | 84 => ⟨S_, .i32⟩
  | 85 => ⟨S25, .i32⟩
  | 86 => ⟨S25, .i32⟩
  | 87 => ⟨S25, .i32⟩
  | 88 => ⟨S25x1, .i32⟩
  | 89 => ⟨S_, .i1⟩
  | 90 => ⟨S25, .i1⟩
  | 91 => ⟨S100000, .i1⟩
  | 92 => ⟨S100000, .i1⟩
  | 93 => ⟨S100000, .i1⟩
  | 94 => ⟨S100000x1, .i1⟩
  | 95 => ⟨S1x20, .f32⟩
  | 96 => ⟨S100000x20, .i1⟩
  | 97 => ⟨S100000x20, .f32⟩
  | 98 => ⟨S100000x20, .f32⟩
  | 99 => ⟨S_, .i32⟩
  | 100 => ⟨S100000, .i32⟩
  | 101 => ⟨S100000, .i1⟩
  | 102 => ⟨S100000, .i32⟩
  | 103 => ⟨S_, .i32⟩
  | 104 => ⟨S_, .i32⟩
  | 105 => ⟨S_, .i32⟩
  | 106 => ⟨S_, .i32⟩
  | 107 => ⟨S_, .f32⟩
  | 108 => ⟨S100000x1, .i1⟩
  | 109 => ⟨S_, .f32⟩
  | 110 => ⟨S_, .f32⟩
  | 111 => ⟨S100000x3, .i1⟩
  | 112 => ⟨S100000x3, .f32⟩
  | 113 => ⟨S100000x3, .f32⟩
  | 114 => ⟨S_, .f32⟩
  | 115 => ⟨S3, .f32⟩
  | 116 => ⟨S3, .f32⟩
  | 117 => ⟨S3, .f32⟩
  | 118 => ⟨S1x3, .f32⟩
  | 119 => ⟨S100000x3, .f32⟩
  | 120 => ⟨S100000x3, .f32⟩
  | 121 => ⟨S100000x3, .f32⟩
  | 122 => ⟨S_, .f32⟩
  | 123 => ⟨S100000, .f32⟩
  | 124 => ⟨S_, .f32⟩
  | 125 => ⟨S100000, .f32⟩
  | 126 => ⟨S100000, .f32⟩
  | 127 => ⟨S100000, .f32⟩
  | _ => ⟨S100000x512, .f32⟩

abbrev hbmTy0_2 (i : Nat) : BufTy := match i % 128 with
  | 0 => ⟨S100000, .f32⟩
  | 1 => ⟨S25, .f32⟩
  | 2 => ⟨S25, .i32⟩
  | 3 => ⟨S_, .i1⟩
  | 4 => ⟨S100000, .i1⟩
  | 5 => ⟨S_, .i32⟩
  | 6 => ⟨S25, .i32⟩
  | 7 => ⟨S25, .i1⟩
  | 8 => ⟨S_, .i32⟩
  | 9 => ⟨S25, .i32⟩
  | 10 => ⟨S25, .i32⟩
  | 11 => ⟨S25, .i32⟩
  | 12 => ⟨S25x1, .i32⟩
  | 13 => ⟨S_, .i1⟩
  | 14 => ⟨S25, .i1⟩
  | 15 => ⟨S100000, .i1⟩
  | 16 => ⟨S100000, .i1⟩
  | 17 => ⟨S100000, .i1⟩
  | 18 => ⟨S100000x1, .i1⟩
  | 19 => ⟨S1x20, .f32⟩
  | 20 => ⟨S100000x20, .i1⟩
  | 21 => ⟨S100000x20, .f32⟩
  | 22 => ⟨S100000x20, .f32⟩
  | 23 => ⟨S_, .i32⟩
  | 24 => ⟨S100000, .i32⟩
  | 25 => ⟨S100000, .i1⟩
  | 26 => ⟨S100000, .i32⟩
  | 27 => ⟨S_, .i32⟩
  | 28 => ⟨S_, .i32⟩
  | 29 => ⟨S_, .i32⟩
  | 30 => ⟨S_, .i32⟩
  | 31 => ⟨S_, .f32⟩
  | 32 => ⟨S100000x1, .i1⟩
  | 33 => ⟨S_, .f32⟩
  | 34 => ⟨S_, .f32⟩
  | 35 => ⟨S100000x3, .i1⟩
  | 36 => ⟨S100000x3, .f32⟩
  | 37 => ⟨S100000x3, .f32⟩
  | 38 => ⟨S_, .f32⟩
  | 39 => ⟨S3, .f32⟩
  | 40 => ⟨S3, .f32⟩
  | 41 => ⟨S3, .f32⟩
  | 42 => ⟨S1x3, .f32⟩
  | 43 => ⟨S100000x3, .f32⟩
  | 44 => ⟨S100000x3, .f32⟩
  | 45 => ⟨S100000x3, .f32⟩
  | 46 => ⟨S_, .f32⟩
  | 47 => ⟨S100000, .f32⟩
  | 48 => ⟨S_, .f32⟩
  | 49 => ⟨S100000, .f32⟩
  | 50 => ⟨S100000, .f32⟩
  | 51 => ⟨S100000, .f32⟩
  | 52 => ⟨S100000, .f32⟩
  | 53 => ⟨S25, .f32⟩
  | 54 => ⟨S25, .i32⟩
  | 55 => ⟨S_, .i1⟩
  | 56 => ⟨S100000, .i1⟩
  | 57 => ⟨S_, .i32⟩
  | 58 => ⟨S25, .i32⟩
  | 59 => ⟨S25, .i1⟩
  | 60 => ⟨S_, .i32⟩
  | 61 => ⟨S25, .i32⟩
  | 62 => ⟨S25, .i32⟩
  | 63 => ⟨S25, .i32⟩
  | 64 => ⟨S25x1, .i32⟩
  | 65 => ⟨S_, .i1⟩
  | 66 => ⟨S25, .i1⟩
  | 67 => ⟨S100000, .i1⟩
  | 68 => ⟨S100000, .i1⟩
  | 69 => ⟨S100000, .i1⟩
  | 70 => ⟨S100000x1, .i1⟩
  | 71 => ⟨S1x20, .f32⟩
  | 72 => ⟨S100000x20, .i1⟩
  | 73 => ⟨S100000x20, .f32⟩
  | 74 => ⟨S100000x20, .f32⟩
  | 75 => ⟨S_, .i32⟩
  | 76 => ⟨S100000, .i32⟩
  | 77 => ⟨S100000, .i1⟩
  | 78 => ⟨S100000, .i32⟩
  | 79 => ⟨S_, .i32⟩
  | 80 => ⟨S_, .i32⟩
  | 81 => ⟨S_, .i32⟩
  | 82 => ⟨S_, .i32⟩
  | 83 => ⟨S_, .f32⟩
  | 84 => ⟨S100000x1, .i1⟩
  | 85 => ⟨S_, .f32⟩
  | 86 => ⟨S_, .f32⟩
  | 87 => ⟨S100000x3, .i1⟩
  | 88 => ⟨S100000x3, .f32⟩
  | 89 => ⟨S100000x3, .f32⟩
  | 90 => ⟨S_, .f32⟩
  | 91 => ⟨S3, .f32⟩
  | 92 => ⟨S3, .f32⟩
  | 93 => ⟨S3, .f32⟩
  | 94 => ⟨S1x3, .f32⟩
  | 95 => ⟨S100000x3, .f32⟩
  | 96 => ⟨S100000x3, .f32⟩
  | 97 => ⟨S100000x3, .f32⟩
  | 98 => ⟨S_, .f32⟩
  | 99 => ⟨S100000, .f32⟩
  | 100 => ⟨S_, .f32⟩
  | 101 => ⟨S100000, .f32⟩
  | 102 => ⟨S100000, .f32⟩
  | 103 => ⟨S100000, .f32⟩
  | 104 => ⟨S100000, .f32⟩
  | 105 => ⟨S25, .f32⟩
  | 106 => ⟨S25, .i32⟩
  | 107 => ⟨S_, .i1⟩
  | 108 => ⟨S100000, .i1⟩
  | 109 => ⟨S_, .i32⟩
  | 110 => ⟨S25, .i32⟩
  | 111 => ⟨S25, .i1⟩
  | 112 => ⟨S_, .i32⟩
  | 113 => ⟨S25, .i32⟩
  | 114 => ⟨S25, .i32⟩
  | 115 => ⟨S25, .i32⟩
  | 116 => ⟨S25x1, .i32⟩
  | 117 => ⟨S_, .i1⟩
  | 118 => ⟨S25, .i1⟩
  | 119 => ⟨S100000, .i1⟩
  | 120 => ⟨S100000, .i1⟩
  | 121 => ⟨S100000, .i1⟩
  | 122 => ⟨S100000x1, .i1⟩
  | 123 => ⟨S1x20, .f32⟩
  | 124 => ⟨S100000x20, .i1⟩
  | 125 => ⟨S100000x20, .f32⟩
  | 126 => ⟨S100000x20, .f32⟩
  | 127 => ⟨S_, .i32⟩
  | _ => ⟨S100000x512, .f32⟩

abbrev hbmTy0_3 (i : Nat) : BufTy := match i % 128 with
  | 0 => ⟨S100000, .i32⟩
  | 1 => ⟨S100000, .i1⟩
  | 2 => ⟨S100000, .i32⟩
  | 3 => ⟨S_, .i32⟩
  | 4 => ⟨S_, .i32⟩
  | 5 => ⟨S_, .i32⟩
  | 6 => ⟨S_, .i32⟩
  | 7 => ⟨S_, .f32⟩
  | 8 => ⟨S100000x1, .i1⟩
  | 9 => ⟨S_, .f32⟩
  | 10 => ⟨S_, .f32⟩
  | 11 => ⟨S100000x3, .i1⟩
  | 12 => ⟨S100000x3, .f32⟩
  | 13 => ⟨S100000x3, .f32⟩
  | 14 => ⟨S_, .f32⟩
  | 15 => ⟨S3, .f32⟩
  | 16 => ⟨S3, .f32⟩
  | 17 => ⟨S3, .f32⟩
  | 18 => ⟨S1x3, .f32⟩
  | 19 => ⟨S100000x3, .f32⟩
  | 20 => ⟨S100000x3, .f32⟩
  | 21 => ⟨S100000x3, .f32⟩
  | 22 => ⟨S_, .f32⟩
  | 23 => ⟨S100000, .f32⟩
  | 24 => ⟨S_, .f32⟩
  | 25 => ⟨S100000, .f32⟩
  | 26 => ⟨S100000, .f32⟩
  | 27 => ⟨S100000, .f32⟩
  | 28 => ⟨S100000, .f32⟩
  | 29 => ⟨S25, .f32⟩
  | 30 => ⟨S25, .i32⟩
  | 31 => ⟨S_, .i1⟩
  | 32 => ⟨S100000, .i1⟩
  | 33 => ⟨S_, .i32⟩
  | 34 => ⟨S25, .i32⟩
  | 35 => ⟨S25, .i1⟩
  | 36 => ⟨S_, .i32⟩
  | 37 => ⟨S25, .i32⟩
  | 38 => ⟨S25, .i32⟩
  | 39 => ⟨S25, .i32⟩
  | 40 => ⟨S25x1, .i32⟩
  | 41 => ⟨S_, .i1⟩
  | 42 => ⟨S25, .i1⟩
  | 43 => ⟨S100000, .i1⟩
  | 44 => ⟨S100000, .i1⟩
  | 45 => ⟨S100000, .i1⟩
  | 46 => ⟨S100000x1, .i1⟩
  | 47 => ⟨S1x20, .f32⟩
  | 48 => ⟨S100000x20, .i1⟩
  | 49 => ⟨S100000x20, .f32⟩
  | 50 => ⟨S100000x20, .f32⟩
  | _ => ⟨S100000x512, .f32⟩

abbrev hbmTy (i : Nat) : BufTy := match i / 128 with
  | 0 => hbmTy0_0 i
  | 1 => hbmTy0_1 i
  | 2 => hbmTy0_2 i
  | 3 => hbmTy0_3 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_6 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_values : Ref sig .tc := ⟨.hbm, 49, rfl⟩
abbrev main_indices : Ref sig .tc := ⟨.hbm, 50, rfl⟩
abbrev main_c_8 : Ref sig .tc := ⟨.hbm, 51, rfl⟩
abbrev main_v28 : Ref sig .tc := ⟨.hbm, 52, rfl⟩
abbrev main_c_9 : Ref sig .tc := ⟨.hbm, 53, rfl⟩
abbrev main_v29 : Ref sig .tc := ⟨.hbm, 54, rfl⟩
abbrev main_v30 : Ref sig .tc := ⟨.hbm, 55, rfl⟩
abbrev main_c_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call2_v0 : Ref sig .tc := ⟨.hbm, 68, rfl⟩
abbrev main_call2_v1 : Ref sig .tc := ⟨.hbm, 69, rfl⟩
abbrev main_v41 : Ref sig .tc := ⟨.hbm, 70, rfl⟩
abbrev main_c_12 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_13 : Ref sig .tc := ⟨.hbm, 75, rfl⟩
abbrev main_v45 : Ref sig .tc := ⟨.hbm, 76, rfl⟩
abbrev main_c_14 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_15 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v49 : Ref sig .tc := ⟨.hbm, 85, rfl⟩
abbrev main_cst_16 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_17 : Ref sig .tc := ⟨.hbm, 94, rfl⟩
abbrev main_v57 : Ref sig .tc := ⟨.hbm, 95, rfl⟩
abbrev main_cst_18 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_values_19 : Ref sig .tc := ⟨.hbm, 101, rfl⟩
abbrev main_indices_20 : Ref sig .tc := ⟨.hbm, 102, rfl⟩
abbrev main_c_21 : Ref sig .tc := ⟨.hbm, 103, rfl⟩
abbrev main_v62 : Ref sig .tc := ⟨.hbm, 104, rfl⟩
abbrev main_c_22 : Ref sig .tc := ⟨.hbm, 105, rfl⟩
abbrev main_v63 : Ref sig .tc := ⟨.hbm, 106, rfl⟩
abbrev main_v64 : Ref sig .tc := ⟨.hbm, 107, rfl⟩
abbrev main_c_23 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_c_24 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_call4_v0 : Ref sig .tc := ⟨.hbm, 120, rfl⟩
abbrev main_call4_v1 : Ref sig .tc := ⟨.hbm, 121, rfl⟩
abbrev main_v75 : Ref sig .tc := ⟨.hbm, 122, rfl⟩
abbrev main_c_25 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_c_26 : Ref sig .tc := ⟨.hbm, 127, rfl⟩
abbrev main_v79 : Ref sig .tc := ⟨.hbm, 128, rfl⟩
abbrev main_c_27 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_28 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_v83 : Ref sig .tc := ⟨.hbm, 137, rfl⟩
abbrev main_cst_29 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_30 : Ref sig .tc := ⟨.hbm, 146, rfl⟩
abbrev main_v91 : Ref sig .tc := ⟨.hbm, 147, rfl⟩
abbrev main_cst_31 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_values_32 : Ref sig .tc := ⟨.hbm, 153, rfl⟩
abbrev main_indices_33 : Ref sig .tc := ⟨.hbm, 154, rfl⟩
abbrev main_c_34 : Ref sig .tc := ⟨.hbm, 155, rfl⟩
abbrev main_v96 : Ref sig .tc := ⟨.hbm, 156, rfl⟩
abbrev main_c_35 : Ref sig .tc := ⟨.hbm, 157, rfl⟩
abbrev main_v97 : Ref sig .tc := ⟨.hbm, 158, rfl⟩
abbrev main_v98 : Ref sig .tc := ⟨.hbm, 159, rfl⟩
abbrev main_c_36 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_c_37 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_call6_v0 : Ref sig .tc := ⟨.hbm, 172, rfl⟩
abbrev main_call6_v1 : Ref sig .tc := ⟨.hbm, 173, rfl⟩
abbrev main_v109 : Ref sig .tc := ⟨.hbm, 174, rfl⟩
abbrev main_c_38 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_c_39 : Ref sig .tc := ⟨.hbm, 179, rfl⟩
abbrev main_v113 : Ref sig .tc := ⟨.hbm, 180, rfl⟩
abbrev main_c_40 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_cst_41 : Ref sig .tc := ⟨.hbm, 185, rfl⟩
abbrev main_call7_v0 : Ref sig .tc := ⟨.hbm, 186, rfl⟩
abbrev main_call7_v1 : Ref sig .tc := ⟨.hbm, 187, rfl⟩
abbrev main_call7_v2 : Ref sig .tc := ⟨.hbm, 188, rfl⟩
abbrev main_v117 : Ref sig .tc := ⟨.hbm, 189, rfl⟩
abbrev main_cst_42 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_cst_43 : Ref sig .tc := ⟨.hbm, 198, rfl⟩
abbrev main_v125 : Ref sig .tc := ⟨.hbm, 199, rfl⟩
abbrev main_cst_44 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_values_45 : Ref sig .tc := ⟨.hbm, 205, rfl⟩
abbrev main_indices_46 : Ref sig .tc := ⟨.hbm, 206, rfl⟩
abbrev main_c_47 : Ref sig .tc := ⟨.hbm, 207, rfl⟩
abbrev main_v130 : Ref sig .tc := ⟨.hbm, 208, rfl⟩
abbrev main_c_48 : Ref sig .tc := ⟨.hbm, 209, rfl⟩
abbrev main_v131 : Ref sig .tc := ⟨.hbm, 210, rfl⟩
abbrev main_v132 : Ref sig .tc := ⟨.hbm, 211, rfl⟩
abbrev main_c_49 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_c_50 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_call8_v0 : Ref sig .tc := ⟨.hbm, 224, rfl⟩
abbrev main_call8_v1 : Ref sig .tc := ⟨.hbm, 225, rfl⟩
abbrev main_v143 : Ref sig .tc := ⟨.hbm, 226, rfl⟩
abbrev main_c_51 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_c_52 : Ref sig .tc := ⟨.hbm, 231, rfl⟩
abbrev main_v147 : Ref sig .tc := ⟨.hbm, 232, rfl⟩
abbrev main_c_53 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_cst_54 : Ref sig .tc := ⟨.hbm, 237, rfl⟩
abbrev main_call9_v0 : Ref sig .tc := ⟨.hbm, 238, rfl⟩
abbrev main_call9_v1 : Ref sig .tc := ⟨.hbm, 239, rfl⟩
abbrev main_call9_v2 : Ref sig .tc := ⟨.hbm, 240, rfl⟩
abbrev main_v151 : Ref sig .tc := ⟨.hbm, 241, rfl⟩
abbrev main_cst_55 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_cst_56 : Ref sig .tc := ⟨.hbm, 250, rfl⟩
abbrev main_v159 : Ref sig .tc := ⟨.hbm, 251, rfl⟩
abbrev main_cst_57 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_values_58 : Ref sig .tc := ⟨.hbm, 257, rfl⟩
abbrev main_indices_59 : Ref sig .tc := ⟨.hbm, 258, rfl⟩
abbrev main_c_60 : Ref sig .tc := ⟨.hbm, 259, rfl⟩
abbrev main_v164 : Ref sig .tc := ⟨.hbm, 260, rfl⟩
abbrev main_c_61 : Ref sig .tc := ⟨.hbm, 261, rfl⟩
abbrev main_v165 : Ref sig .tc := ⟨.hbm, 262, rfl⟩
abbrev main_v166 : Ref sig .tc := ⟨.hbm, 263, rfl⟩
abbrev main_c_62 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_c_63 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_call10_v0 : Ref sig .tc := ⟨.hbm, 276, rfl⟩
abbrev main_call10_v1 : Ref sig .tc := ⟨.hbm, 277, rfl⟩
abbrev main_v177 : Ref sig .tc := ⟨.hbm, 278, rfl⟩
abbrev main_c_64 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_c_65 : Ref sig .tc := ⟨.hbm, 283, rfl⟩
abbrev main_v181 : Ref sig .tc := ⟨.hbm, 284, rfl⟩
abbrev main_c_66 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_cst_67 : Ref sig .tc := ⟨.hbm, 289, rfl⟩
abbrev main_call11_v0 : Ref sig .tc := ⟨.hbm, 290, rfl⟩
abbrev main_call11_v1 : Ref sig .tc := ⟨.hbm, 291, rfl⟩
abbrev main_call11_v2 : Ref sig .tc := ⟨.hbm, 292, rfl⟩
abbrev main_v185 : Ref sig .tc := ⟨.hbm, 293, rfl⟩
abbrev main_cst_68 : Ref sig .tc := ⟨.hbm, 294, rfl⟩
abbrev main_v186 : Ref sig .tc := ⟨.hbm, 295, rfl⟩
abbrev main_v187 : Ref sig .tc := ⟨.hbm, 296, rfl⟩
abbrev main_v188 : Ref sig .tc := ⟨.hbm, 297, rfl⟩
abbrev main_v189 : Ref sig .tc := ⟨.hbm, 298, rfl⟩
abbrev main_v190 : Ref sig .tc := ⟨.hbm, 299, rfl⟩
abbrev main_v191 : Ref sig .tc := ⟨.hbm, 300, rfl⟩
abbrev main_v192 : Ref sig .tc := ⟨.hbm, 301, rfl⟩
abbrev main_cst_69 : Ref sig .tc := ⟨.hbm, 302, rfl⟩
abbrev main_v193 : Ref sig .tc := ⟨.hbm, 303, rfl⟩
abbrev main_cst_70 : Ref sig .tc := ⟨.hbm, 304, rfl⟩
abbrev main_v194 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_values_71 : Ref sig .tc := ⟨.hbm, 309, rfl⟩
abbrev main_indices_72 : Ref sig .tc := ⟨.hbm, 310, rfl⟩
abbrev main_c_73 : Ref sig .tc := ⟨.hbm, 311, rfl⟩
abbrev main_v198 : Ref sig .tc := ⟨.hbm, 312, rfl⟩
abbrev main_c_74 : Ref sig .tc := ⟨.hbm, 313, rfl⟩
abbrev main_v199 : Ref sig .tc := ⟨.hbm, 314, rfl⟩
abbrev main_v200 : Ref sig .tc := ⟨.hbm, 315, rfl⟩
abbrev main_c_75 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_v204 : Ref sig .tc := ⟨.hbm, 320, rfl⟩
abbrev main_c_76 : Ref sig .tc := ⟨.hbm, 321, rfl⟩
abbrev main_v205 : Ref sig .tc := ⟨.hbm, 322, rfl⟩
abbrev main_v206 : Ref sig .tc := ⟨.hbm, 323, rfl⟩
abbrev main_v207 : Ref sig .tc := ⟨.hbm, 324, rfl⟩
abbrev main_v208 : Ref sig .tc := ⟨.hbm, 325, rfl⟩
abbrev main_v209 : Ref sig .tc := ⟨.hbm, 326, rfl⟩
abbrev main_v210 : Ref sig .tc := ⟨.hbm, 327, rfl⟩
abbrev main_call12_v0 : Ref sig .tc := ⟨.hbm, 328, rfl⟩
abbrev main_call12_v1 : Ref sig .tc := ⟨.hbm, 329, rfl⟩
abbrev main_v211 : Ref sig .tc := ⟨.hbm, 330, rfl⟩
abbrev main_c_77 : Ref sig .tc := ⟨.hbm, 331, rfl⟩
abbrev main_v212 : Ref sig .tc := ⟨.hbm, 332, rfl⟩
abbrev main_v213 : Ref sig .tc := ⟨.hbm, 333, rfl⟩
abbrev main_v214 : Ref sig .tc := ⟨.hbm, 334, rfl⟩
abbrev main_c_78 : Ref sig .tc := ⟨.hbm, 335, rfl⟩
abbrev main_v215 : Ref sig .tc := ⟨.hbm, 336, rfl⟩
abbrev main_c_79 : Ref sig .tc := ⟨.hbm, 337, rfl⟩
abbrev main_v216 : Ref sig .tc := ⟨.hbm, 338, rfl⟩
abbrev main_v217 : Ref sig .tc := ⟨.hbm, 339, rfl⟩
abbrev main_v218 : Ref sig .tc := ⟨.hbm, 340, rfl⟩
abbrev main_cst_80 : Ref sig .tc := ⟨.hbm, 341, rfl⟩
abbrev main_call13_v0 : Ref sig .tc := ⟨.hbm, 342, rfl⟩
abbrev main_call13_v1 : Ref sig .tc := ⟨.hbm, 343, rfl⟩
abbrev main_call13_v2 : Ref sig .tc := ⟨.hbm, 344, rfl⟩
abbrev main_v219 : Ref sig .tc := ⟨.hbm, 345, rfl⟩
abbrev main_cst_81 : Ref sig .tc := ⟨.hbm, 346, rfl⟩
abbrev main_v220 : Ref sig .tc := ⟨.hbm, 347, rfl⟩
abbrev main_v221 : Ref sig .tc := ⟨.hbm, 348, rfl⟩
abbrev main_v222 : Ref sig .tc := ⟨.hbm, 349, rfl⟩
abbrev main_v223 : Ref sig .tc := ⟨.hbm, 350, rfl⟩
abbrev main_v224 : Ref sig .tc := ⟨.hbm, 351, rfl⟩
abbrev main_v225 : Ref sig .tc := ⟨.hbm, 352, rfl⟩
abbrev main_v226 : Ref sig .tc := ⟨.hbm, 353, rfl⟩
abbrev main_cst_82 : Ref sig .tc := ⟨.hbm, 354, rfl⟩
abbrev main_v227 : Ref sig .tc := ⟨.hbm, 355, rfl⟩
abbrev main_cst_83 : Ref sig .tc := ⟨.hbm, 356, rfl⟩
abbrev main_v228 : Ref sig .tc := ⟨.hbm, 357, rfl⟩
abbrev main_v229 : Ref sig .tc := ⟨.hbm, 358, rfl⟩
abbrev main_v230 : Ref sig .tc := ⟨.hbm, 359, rfl⟩
abbrev main_v231 : Ref sig .tc := ⟨.hbm, 360, rfl⟩
abbrev main_values_84 : Ref sig .tc := ⟨.hbm, 361, rfl⟩
abbrev main_indices_85 : Ref sig .tc := ⟨.hbm, 362, rfl⟩
abbrev main_c_86 : Ref sig .tc := ⟨.hbm, 363, rfl⟩
abbrev main_v232 : Ref sig .tc := ⟨.hbm, 364, rfl⟩
abbrev main_c_87 : Ref sig .tc := ⟨.hbm, 365, rfl⟩
abbrev main_v233 : Ref sig .tc := ⟨.hbm, 366, rfl⟩
abbrev main_v234 : Ref sig .tc := ⟨.hbm, 367, rfl⟩
abbrev main_c_88 : Ref sig .tc := ⟨.hbm, 368, rfl⟩
abbrev main_v235 : Ref sig .tc := ⟨.hbm, 369, rfl⟩
abbrev main_v236 : Ref sig .tc := ⟨.hbm, 370, rfl⟩
abbrev main_v237 : Ref sig .tc := ⟨.hbm, 371, rfl⟩
abbrev main_v238 : Ref sig .tc := ⟨.hbm, 372, rfl⟩
abbrev main_c_89 : Ref sig .tc := ⟨.hbm, 373, rfl⟩
abbrev main_v239 : Ref sig .tc := ⟨.hbm, 374, rfl⟩
abbrev main_v240 : Ref sig .tc := ⟨.hbm, 375, rfl⟩
abbrev main_v241 : Ref sig .tc := ⟨.hbm, 376, rfl⟩
abbrev main_v242 : Ref sig .tc := ⟨.hbm, 377, rfl⟩
abbrev main_v243 : Ref sig .tc := ⟨.hbm, 378, rfl⟩
abbrev main_v244 : Ref sig .tc := ⟨.hbm, 379, rfl⟩
abbrev main_call14_v0 : Ref sig .tc := ⟨.hbm, 380, rfl⟩
abbrev main_call14_v1 : Ref sig .tc := ⟨.hbm, 381, rfl⟩
abbrev main_v245 : Ref sig .tc := ⟨.hbm, 382, rfl⟩
abbrev main_c_90 : Ref sig .tc := ⟨.hbm, 383, rfl⟩
abbrev main_v246 : Ref sig .tc := ⟨.hbm, 384, rfl⟩
abbrev main_v247 : Ref sig .tc := ⟨.hbm, 385, rfl⟩
abbrev main_v248 : Ref sig .tc := ⟨.hbm, 386, rfl⟩
abbrev main_c_91 : Ref sig .tc := ⟨.hbm, 387, rfl⟩
abbrev main_v249 : Ref sig .tc := ⟨.hbm, 388, rfl⟩
abbrev main_c_92 : Ref sig .tc := ⟨.hbm, 389, rfl⟩
abbrev main_v250 : Ref sig .tc := ⟨.hbm, 390, rfl⟩
abbrev main_v251 : Ref sig .tc := ⟨.hbm, 391, rfl⟩
abbrev main_v252 : Ref sig .tc := ⟨.hbm, 392, rfl⟩
abbrev main_cst_93 : Ref sig .tc := ⟨.hbm, 393, rfl⟩
abbrev main_call15_v0 : Ref sig .tc := ⟨.hbm, 394, rfl⟩
abbrev main_call15_v1 : Ref sig .tc := ⟨.hbm, 395, rfl⟩
abbrev main_call15_v2 : Ref sig .tc := ⟨.hbm, 396, rfl⟩
abbrev main_v253 : Ref sig .tc := ⟨.hbm, 397, rfl⟩
abbrev main_cst_94 : Ref sig .tc := ⟨.hbm, 398, rfl⟩
abbrev main_v254 : Ref sig .tc := ⟨.hbm, 399, rfl⟩
abbrev main_v255 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_v259 : Ref sig .tc := ⟨.hbm, 404, rfl⟩
abbrev main_v260 : Ref sig .tc := ⟨.hbm, 405, rfl⟩
abbrev main_cst_95 : Ref sig .tc := ⟨.hbm, 406, rfl⟩
abbrev main_v261 : Ref sig .tc := ⟨.hbm, 407, rfl⟩
abbrev main_cst_96 : Ref sig .tc := ⟨.hbm, 408, rfl⟩
abbrev main_v262 : Ref sig .tc := ⟨.hbm, 409, rfl⟩
abbrev main_v263 : Ref sig .tc := ⟨.hbm, 410, rfl⟩
abbrev main_v264 : Ref sig .tc := ⟨.hbm, 411, rfl⟩
abbrev main_v265 : Ref sig .tc := ⟨.hbm, 412, rfl⟩
abbrev main_values_97 : Ref sig .tc := ⟨.hbm, 413, rfl⟩
abbrev main_indices_98 : Ref sig .tc := ⟨.hbm, 414, rfl⟩
abbrev main_c_99 : Ref sig .tc := ⟨.hbm, 415, rfl⟩
abbrev main_v266 : Ref sig .tc := ⟨.hbm, 416, rfl⟩
abbrev main_c_100 : Ref sig .tc := ⟨.hbm, 417, rfl⟩
abbrev main_v267 : Ref sig .tc := ⟨.hbm, 418, rfl⟩
abbrev main_v268 : Ref sig .tc := ⟨.hbm, 419, rfl⟩
abbrev main_c_101 : Ref sig .tc := ⟨.hbm, 420, rfl⟩
abbrev main_v269 : Ref sig .tc := ⟨.hbm, 421, rfl⟩
abbrev main_v270 : Ref sig .tc := ⟨.hbm, 422, rfl⟩
abbrev main_v271 : Ref sig .tc := ⟨.hbm, 423, rfl⟩
abbrev main_v272 : Ref sig .tc := ⟨.hbm, 424, rfl⟩
abbrev main_c_102 : Ref sig .tc := ⟨.hbm, 425, rfl⟩
abbrev main_v273 : Ref sig .tc := ⟨.hbm, 426, rfl⟩
abbrev main_v274 : Ref sig .tc := ⟨.hbm, 427, rfl⟩
abbrev main_v275 : Ref sig .tc := ⟨.hbm, 428, rfl⟩
abbrev main_v276 : Ref sig .tc := ⟨.hbm, 429, rfl⟩
abbrev main_v277 : Ref sig .tc := ⟨.hbm, 430, rfl⟩
abbrev main_v278 : Ref sig .tc := ⟨.hbm, 431, rfl⟩
abbrev main_call16_v0 : Ref sig .tc := ⟨.hbm, 432, rfl⟩
abbrev main_call16_v1 : Ref sig .tc := ⟨.hbm, 433, rfl⟩
abbrev main_v279 : Ref sig .tc := ⟨.hbm, 434, rfl⟩

abbrev nD : Nat := 1
abbrev τ : Topo := Topo.v7x

variable {F : FTy → Type} [FloatOps F]
-- ==== Proof.RefOps.lean ====
module

public import proofs.«01_k».proof.Defs
public import proofs.«01_k».proof.Proof.Gen.ReferenceIdeal
public import Idealize.ShloMosaic.Adequacy
public import Idealize.ShloMosaic.Lib.Claim
public import Idealize.ShloMosaic.Init

@[expose] public section

noncomputable section

namespace Cert.Proof.Ref

open Idealize.ShloMosaic Idealize.SL.Sem StableHlo
open Cert.ReferenceIdeal

/-- The lines of operations that the reference's `main` is. -/
abbrev Line := {L : List (HloOp τ sig (Elt Ideal)) // ∀ d, IsSeq (main (F := Ideal) d) L}

/-- A line from the proof that `main` is it. -/
def Line.of {L : List (HloOp τ sig (Elt Ideal))} (h : ∀ d, IsSeq (main (F := Ideal) d) L) : Line := ⟨L, h⟩

set_option maxHeartbeats 0 in
/-- The reference as one line of host operations. -/
def line : Line := by
  apply Line.of
  hlo_seq

set_option maxHeartbeats 0 in
set_option maxRecDepth 100000 in
/-- The reference runs, and leaves in every buffer what its line of operations leaves there. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc),
        r.2.mem ((d.tc : Thread nD τ).loc b) = after line.1 (launchContents m d) (Proc.devRef .tc b) := by
  refine run_hlo _ _ line.2 (by decide) (by decide) (by unfold line Line.of; simp) ?_ m g
  unfold line Line.of
  intro _ h
  (repeat (cases h with | head => rfl | tail _ h => ?_)); exact nomatch h

end Cert.Proof.Ref

end
-- ==== Proof.RefFrame.lean ====
module

public import proofs.«01_k».proof.Proof.RefOps
public import Idealize.ShloMosaic.Lib.StableHlo.RunRead

@[expose] public section

noncomputable section

namespace Cert.Proof.Ref

open Idealize.ShloMosaic Idealize.SL.Sem StableHlo
open Cert.ReferenceIdeal

set_option maxHeartbeats 0 in
set_option maxRecDepth 100000 in
/-- No operation of the line writes an argument. -/
theorem line_args (V : Valuation τ sig (Elt Ideal)) :
    after line.1 V (Proc.devRef .tc main_arg0) = V (Proc.devRef .tc main_arg0)
    ∧ after line.1 V (Proc.devRef .tc main_arg1) = V (Proc.devRef .tc main_arg1)
    ∧ after line.1 V (Proc.devRef .tc main_arg2) = V (Proc.devRef .tc main_arg2)
    ∧ after line.1 V (Proc.devRef .tc main_arg3) = V (Proc.devRef .tc main_arg3) := by
  after_reads_simp
  exact ⟨trivial, trivial, trivial, trivial⟩

/-- The reference runs, leaves its arguments as they were and every counter at zero. -/
theorem frame : Cert.quiescent_ReferenceIdeal (hReferenceIdeal := Cert.ReferenceIdeal.Gen.facts) := by
  intro m g _
  refine θ_run_mono (run m g) fun r h => ⟨fun c => ?_, ?_⟩
  · obtain ⟨h0, h1, h2, h3⟩ := line_args (launchContents m c)
    exact ⟨(h c main_arg0).trans h0, (h c main_arg1).trans h1, (h c main_arg2).trans h2, (h c main_arg3).trans h3⟩
  · funext x
    rcases x with ⟨t, s | s⟩
    · exact nomatch (s : Fin 0)
    · exact nomatch (s : Fin 0)

end Cert.Proof.Ref

end
-- ==== Proof.RefStep.lean ====
module

public import proofs.«01_k».proof.Proof.Gen.ReferenceIdeal
public import Idealize.ShloMosaic.PureOps.Ideal

@[expose] public section

noncomputable section

namespace Cert.Proof.Ref

open Idealize.ShloMosaic Idealize.SL.Sem
open Cert.ReferenceIdeal Cert.ReferenceIdeal.Facts₀

/-- The rows' logits: the features times the weights, plus the bias. -/
def logits (feat : FVec Ideal S100000x512 .f32) (W : FVec Ideal S512x20 .f32) (b : FVec Ideal S20 .f32) :
    FVec Ideal S100000x20 .f32 :=
  addf (Host.dotGeneral (F := Ideal) dot_S100000x512_S512x20_S100000x20_1_0_0_1_n_n none feat W)
    (broadcastInDim S100000x20 ![0, 1] bcast_S1x20_S100000x20_0_1 (broadcastInDim S1x20 ![1] bcast_S20_S1x20_1 b))

/-- The rows' labels: the column of each row's largest logit. -/
def labels (x : FVec Ideal S100000x20 .f32) : IVec S100000 32 := fun j =>
  (Host.argReduce (reducer_argmax_f32_i32 (F := Ideal)) x (iotaInDim S100000x20 32 1) (constant S_ .f32 0xFF800000#32)
    (constantI S_ 32 0#32) reducesTo_S100000x20_S100000_d1 h_S_ j).2

/-- The row that a reset writes: 10 in column 1, zero elsewhere. -/
def target : FVec Ideal S20 .f32 :=
  Host.scatter scatter_S20_S1_S__n_0_0_0 (fun _ b => b)
    (broadcastInDim S20 ![] bcast_S_S20 (constant (F := Ideal) S_ .f32 0x00000000#32))
    (broadcastInDim S1 ![] bcast_S_S1 (constantI S_ 32 1#32)) (constant (F := Ideal) S_ .f32 0x41200000#32)

variable (lab : IVec S100000 32) (coord : FVec Ideal S100000x3 .f32) (c : BitVec 32)

/-- Which rows bear the label `c`. -/
def mask : IVec S100000 1 :=
  cmpi .eq lab (broadcastInDim S100000 ![] bcast_S_S100000 (constantI S_ 32 c))

/-- How many rows bear the label `c`. -/
def count : IVec S_ 32 :=
  Host.reduce IntOp.addi (extui 32 (mask lab c) natLt_1_32) (constantI S_ 32 0#32) reducesTo_S100000_S_d0 h_S_

/-- The rows' coordinates, zero where the label is not `c`. -/
def masked : FVec Ideal S100000x3 .f32 :=
  select (broadcastInDim S100000x3 ![0, 1] bcast_S100000x1_S100000x3_0_1
      (broadcastInDim S100000x1 ![0] bcast_S100000_S100000x1_0 (mask lab c)))
    coord (broadcastInDim S100000x3 ![] bcast_S_S100000x3 (constant (F := Ideal) S_ .f32 0x00000000#32))

/-- The mean position of the rows labelled `c`. -/
def centroid : FVec Ideal S3 .f32 :=
  Host.divf (Host.reduceAdd (masked lab coord c) (constant (F := Ideal) S_ .f32 0x00000000#32) reducesTo_S100000x3_S3_d0 h_S_)
    (broadcastInDim S3 ![] bcast_S_S3 (sitofp .f32 (maxsi (count lab c) (constantI S_ 32 1#32))))

/-- Every row's offset from the mean position. -/
def offset : FVec Ideal S100000x3 .f32 :=
  subf coord (broadcastInDim S100000x3 ![0, 1] bcast_S1x3_S100000x3_0_1
    (broadcastInDim S1x3 ![1] bcast_S3_S1x3_1 (centroid lab coord c)))

/-- Minus every row's distance from the mean position. -/
def negDist : FVec Ideal S100000 .f32 :=
  Host.negf (Host.sqrt (addf
    (Host.reduceAdd (mulf (offset lab coord c) (offset lab coord c)) (constant (F := Ideal) S_ .f32 0x00000000#32)
      reducesTo_S100000x3_S100000_d1 h_S_)
    (broadcastInDim S100000 ![] bcast_S_S100000 (constant (F := Ideal) S_ .f32 0x2B8CBCCC#32))))

/-- The places of the 25 largest elements. -/
def topIdx (x : FVec Ideal S100000 .f32) : IVec S25 32 :=
  (Host.topK S25 0 (FloatOps.cmpfTotal (F := Ideal) .gt) x sliceFits_S100000_S25).2

/-- The places as the scatter takes them: a negative one counted from the end. -/
def wrapped (idx : IVec S25 32) : IVec S25 32 :=
  select (cmpi .slt idx (broadcastInDim S25 ![] bcast_S_S25 (constantI S_ 32 0#32)))
    (addi idx (broadcastInDim S25 ![] bcast_S_S25 (constantI S_ 32 100000#32))) idx

/-- Which rows are among the 25 nearest. -/
def nearest : IVec S100000 1 :=
  Host.scatter scatter_S100000_S25x1_S25_n_0_0_1 (fun _ b => b)
    (broadcastInDim S100000 ![] bcast_S_S100000 (constantI S_ 1 0#1))
    (broadcastInDim S25x1 ![0] bcast_S25_S25x1_0 (wrapped (topIdx (negDist lab coord c))))
    (broadcastInDim S25 ![] bcast_S_S25 (constantI S_ 1 1#1))

/-- Which rows the class `c` resets. -/
def resets : IVec S100000 1 := andi (mask lab c) (noti (nearest lab coord c))

/-- One class's pass: its reset rows overwritten. -/
def step (t : FVec Ideal S20 .f32) (x : FVec Ideal S100000x20 .f32) : FVec Ideal S100000x20 .f32 :=
  select (broadcastInDim S100000x20 ![0, 1] bcast_S100000x1_S100000x20_0_1
      (broadcastInDim S100000x1 ![0] bcast_S100000_S100000x1_0 (resets lab coord c)))
    (broadcastInDim S100000x20 ![0, 1] bcast_S1x20_S100000x20_0_1 (broadcastInDim S1x20 ![1] bcast_S20_S1x20_1 t)) x

end Cert.Proof.Ref

end
-- ==== Proof.FirstMax.lean ====
module

public import Idealize.ShloMosaic.PureOps.Ideal
public import Idealize.ShloMosaic.PureOps.Ideal.Laws
public import Idealize.ShloMosaic.Lib.Pointwise
public import Idealize.ShloMosaic.Lib.SortNet.Extract
public import Idealize.ShloMosaic.Lib.StableHlo.Predicate

@[expose] public section

noncomputable section

namespace Cert.Proof

open Idealize.ShloMosaic

/-- Entry `k` is a greatest one and no earlier entry equals it. -/
def FirstMax {n : Nat} (x : Fin n → EReal) (k : Fin n) : Prop := (∀ j, x j ≤ x k) ∧ ∀ j, x j = x k → k ≤ j

/-- Every nonempty vector has such an entry. -/
theorem exists_firstMax {n : Nat} (hn : 0 < n) (x : Fin n → EReal) : ∃ k, FirstMax x k := by
  have : Nonempty (Fin n) := ⟨⟨0, hn⟩⟩
  obtain ⟨m, hm⟩ := Finite.exists_max x
  have hne : (Finset.univ.filter fun j : Fin n => x j = x m).Nonempty := ⟨m, by simp⟩
  refine ⟨(Finset.univ.filter fun j : Fin n => x j = x m).min' hne, ?_, ?_⟩
  · intro j
    rw [(Finset.mem_filter.1 (Finset.min'_mem _ hne)).2]
    exact hm j
  · intro j hj
    rw [(Finset.mem_filter.1 (Finset.min'_mem _ hne)).2] at hj
    exact Finset.min'_le _ j (Finset.mem_filter.2 ⟨Finset.mem_univ j, hj⟩)

/-- Entries added behind that are not above the greatest one change nothing. -/
theorem FirstMax.pad {n N : Nat} (hn : n ≤ N) {x : Fin n → EReal} {k : Fin n} (h : FirstMax x k) (u : Fin N → EReal) (p : EReal)
    (hu : ∀ j : Fin n, u (j.castLE hn) = x j) (hp : ∀ j : Fin N, n ≤ j.val → u j = p) (hk : p ≤ x k) : FirstMax u (k.castLE hn) := by
  constructor
  · intro j
    rw [hu]
    by_cases hj : j.val < n
    · exact (hu ⟨j.val, hj⟩).le.trans (h.1 _)
    · rw [hp j (not_lt.1 hj)]; exact hk
  · intro j hj
    by_cases hj' : j.val < n
    · rw [hu] at hj
      exact h.2 ⟨j.val, hj'⟩ ((hu ⟨j.val, hj'⟩).symm.trans hj)
    · exact Fin.le_def.2 (k.isLt.le.trans (not_lt.1 hj'))

/-- The first column at which a row of 32 reaches its greatest entry, as the kernel finds it. -/
def rowLabel (u : Fin 32 → EReal) : BitVec 32 :=
  Finset.univ.fold IntOp.minsi 2147483647#32 fun j =>
    if u j = Finset.univ.fold max ⊥ u then BitVec.ofNat 32 j.val else 32#32

/-- It is that column. -/
theorem rowLabel_eq (u : Fin 32 → EReal) (k : Fin 32) (h : FirstMax u k) : rowLabel u = BitVec.ofNat 32 k.val := by
  have hmax : Finset.univ.fold max ⊥ u = u k := by
    refine le_antisymm ?_ ?_
    · exact (Finset.fold_max_le _).2 ⟨bot_le, fun j _ => h.1 j⟩
    · exact (Finset.le_fold_max _).2 (.inr ⟨k, Finset.mem_univ k, le_refl _⟩)
  have hk : (BitVec.ofNat 32 k.val).toInt = (k.val : Int) := StableHlo.Predicate.toInt_ofNat_small _ (by omega)
  apply BitVec.eq_of_toInt_eq
  unfold rowLabel
  rw [hmax, ← Finset.fold_hom (op' := min) (m := BitVec.toInt) SortNet.toInt_minsi, hk]
  refine le_antisymm ?_ ?_
  · refine (Finset.fold_min_le _).2 (.inr ⟨k, Finset.mem_univ k, ?_⟩)
    rw [if_pos rfl, hk]
  · refine (Finset.le_fold_min _).2 ⟨?_, fun j _ => ?_⟩
    · have := k.isLt
      have : (2147483647#32).toInt = 2147483647 := by decide
      omega
    · by_cases hj : u j = u k
      · rw [if_pos hj, StableHlo.Predicate.toInt_ofNat_small _ (by omega)]
        exact_mod_cast h.2 j hj
      · rw [if_neg hj]
        have : (32#32).toInt = 32 := by decide
        have := k.isLt
        omega

end Cert.Proof

end
-- ==== Proof.Labels.lean ====
module

public import Idealize.ShloMosaic.PureOps.Ideal
public import Idealize.ShloMosaic.PureOps.Ideal.Laws
public import Idealize.ShloMosaic.Lib.Pointwise
public import Idealize.ShloMosaic.Lib.SortNet.Extract
public import Idealize.ShloMosaic.Lib.StableHlo.Predicate
public import proofs.«01_k».proof.Proof.RefStep
public import proofs.«01_k».proof.Proof.FirstMax

@[expose] public section

noncomputable section

namespace Cert.Proof

open Idealize.ShloMosaic

/-- One step of the host's search for the greatest entry. -/
theorem reducer_eq (a b : EReal × BitVec 32) :
    Cert.ReferenceIdeal.reducer_argmax_f32_i32 (F := Ideal) a b
      = (if b.1 < a.1 then a.1 else b.1, if b.1 < a.1 ∨ (a.1 = b.1 ∧ a.2.toInt < b.2.toInt) then a.2 else b.2) := by
  unfold Cert.ReferenceIdeal.reducer_argmax_f32_i32
  simp only [Ideal.cmpf_def]
  by_cases h1 : b.1 < a.1 <;> by_cases h2 : a.1 = b.1 <;> by_cases h3 : a.2.toInt < b.2.toInt <;>
    simp [Ideal.cmp, h1, h2, h3, IntOp.ori, IntOp.andi, IntOp.cmpi, Scalar.select, BitVec.slt]

/-- The search over a list that holds the pair `p`, none of whose pairs is better, ends at `p`. -/
theorem foldl_reducer (p : EReal × BitVec 32) (l : List (EReal × BitVec 32)) (init : EReal × BitVec 32)
    (hl : ∀ a ∈ l, a.1 ≤ p.1 ∧ (a.1 = p.1 → p.2.toInt ≤ a.2.toInt)) (hi : init.1 ≤ p.1 ∧ (init.1 = p.1 → p.2.toInt ≤ init.2.toInt))
    (hp : init = p ∨ p ∈ l) : l.foldl (Cert.ReferenceIdeal.reducer_argmax_f32_i32 (F := Ideal)) init = p := by
  have left : ∀ b : EReal × BitVec 32, (b.1 ≤ p.1 ∧ (b.1 = p.1 → p.2.toInt ≤ b.2.toInt)) →
      Cert.ReferenceIdeal.reducer_argmax_f32_i32 (F := Ideal) p b = p := by
    intro b ⟨h1, h2⟩
    rw [reducer_eq]
    rcases lt_or_eq_of_le h1 with h | h
    · rw [if_pos h, if_pos (.inl h)]
    · have h2 := h2 h
      rw [if_neg (by rw [h]; exact lt_irrefl _)]
      refine Prod.ext h ?_
      by_cases h3 : p.2.toInt < b.2.toInt
      · exact if_pos (.inr ⟨h.symm, h3⟩)
      · refine (if_neg ?_).trans (BitVec.eq_of_toInt_eq (le_antisymm (not_lt.1 h3) h2))
        rintro (h4 | h4)
        · exact lt_irrefl _ (h ▸ h4)
        · exact h3 h4.2
  have right : ∀ a : EReal × BitVec 32, (a.1 ≤ p.1 ∧ (a.1 = p.1 → p.2.toInt ≤ a.2.toInt)) →
      Cert.ReferenceIdeal.reducer_argmax_f32_i32 (F := Ideal) a p = p := by
    intro a ⟨h1, h2⟩
    rw [reducer_eq, if_neg (not_lt.2 h1)]
    refine Prod.ext rfl (if_neg ?_)
    rintro (h4 | ⟨h4, h5⟩)
    · exact absurd h4 (not_lt.2 h1)
    · exact absurd (h2 h4) (not_le.2 h5)
  have keep : ∀ a b : EReal × BitVec 32, (a.1 ≤ p.1 ∧ (a.1 = p.1 → p.2.toInt ≤ a.2.toInt)) → (b.1 ≤ p.1 ∧ (b.1 = p.1 → p.2.toInt ≤ b.2.toInt)) →
      (Cert.ReferenceIdeal.reducer_argmax_f32_i32 (F := Ideal) a b).1 ≤ p.1
        ∧ ((Cert.ReferenceIdeal.reducer_argmax_f32_i32 (F := Ideal) a b).1 = p.1 → p.2.toInt ≤ (Cert.ReferenceIdeal.reducer_argmax_f32_i32 (F := Ideal) a b).2.toInt) := by
    intro a b ⟨a1, a2⟩ ⟨b1, b2⟩
    rw [reducer_eq]
    by_cases h : b.1 < a.1
    · rw [if_pos h, if_pos (.inl h)]; exact ⟨a1, a2⟩
    · rw [if_neg h]
      refine ⟨b1, fun e => ?_⟩
      have e' : b.1 = p.1 := e
      by_cases h3 : b.1 < a.1 ∨ (a.1 = b.1 ∧ a.2.toInt < b.2.toInt)
      · show p.2.toInt ≤ (if b.1 < a.1 ∨ (a.1 = b.1 ∧ a.2.toInt < b.2.toInt) then a.2 else b.2).toInt
        rw [if_pos h3]
        exact a2 (((h3.resolve_left h).1).trans e')
      · show p.2.toInt ≤ (if b.1 < a.1 ∨ (a.1 = b.1 ∧ a.2.toInt < b.2.toInt) then a.2 else b.2).toInt
        rw [if_neg h3]
        exact b2 e'
  induction l generalizing init with
  | nil =>
    rcases hp with rfl | h
    · rfl
    · exact absurd h List.not_mem_nil
  | cons b l ih =>
    rw [List.foldl_cons]
    have hb := hl b List.mem_cons_self
    refine ih _ (fun a ha => hl a (List.mem_cons_of_mem _ ha)) (keep _ _ hi hb) ?_
    rcases hp with rfl | h
    · exact .inl (left b hb)
    · rcases List.mem_cons.1 h with rfl | h
      · exact .inl (right _ hi)
      · exact .inr h

/-- The search along the rows of an `N` by `C` array ends, in row `r`, at the first column at which it is greatest. -/
theorem argmax_row {N C : Nat} {u : Shape} (hC : C < 2 ^ 31) (x : (⟨2, ![N, C]⟩ : Shape).Idx → EReal)
    (h : (⟨2, ![N, C]⟩ : Shape).ReducesTo [1] ⟨1, ![N]⟩) (hu : 0 < u.numel) (iv : u.Idx → EReal) (ii : u.Idx → BitVec 32)
    (hv : iv (Shape.Idx.first hu) = ⊥) (hi : ii (Shape.Idx.first hu) = 0#32) (r : Fin N) (k : Fin C)
    (hk : FirstMax (fun j => x (ix2 r j)) k) :
    (Host.reduce2 (Cert.ReferenceIdeal.reducer_argmax_f32_i32 (F := Ideal)) x (iotaInDim ⟨2, ![N, C]⟩ 32 1) iv ii h hu (ix1 r)).2
      = BitVec.ofNat 32 k.val := by
  rw [Host.reduce2_eq_foldl_fiber, hv, hi]
  have hki : (BitVec.ofNat 32 k.val).toInt = (k.val : Int) := StableHlo.Predicate.toInt_ofNat_small _ (Nat.lt_trans k.isLt hC)
  have hfib : ∀ i : (⟨2, ![N, C]⟩ : Shape).Idx, h.drop i = ix1 r → i = ix2 r (i 1) := by
    intro i hn
    funext a
    fin_cases a
    · exact Fin.ext (congrArg Fin.val (congrFun hn 0) :)
    · rfl
  have hdrop : h.drop (ix2 r k) = ix1 r := by
    funext a
    fin_cases a
    rfl
  refine congrArg Prod.snd (foldl_reducer (x (ix2 r k), BitVec.ofNat 32 k.val) _ _ ?_ ?_ (.inr ?_))
  · intro a ha
    unfold Host.argReduceFiber at ha
    obtain ⟨n, hn, rfl⟩ := List.mem_map.1 ha
    have hr := hfib _ (of_decide_eq_true (List.mem_filter.1 hn).2)
    generalize (⟨2, ![N, C]⟩ : Shape).rowMajor.symm n = i at hr
    generalize i 1 = j at hr
    subst hr
    refine ⟨hk.1 j, fun e => ?_⟩
    show (BitVec.ofNat 32 k.val).toInt ≤ (BitVec.ofNat 32 j.val).toInt
    rw [hki, StableHlo.Predicate.toInt_ofNat_small _ (Nat.lt_trans j.isLt hC)]
    exact_mod_cast hk.2 j e
  · refine ⟨bot_le, fun e => ?_⟩
    have e : (⊥ : EReal) = x (ix2 r k) := e
    have h0 : (k : Nat) = 0 := by
      have hz : 0 < C := Nat.lt_of_le_of_lt (Nat.zero_le _) k.isLt
      exact Nat.le_zero.1 (Fin.le_def.1 (hk.2 ⟨0, hz⟩ (le_antisymm (hk.1 _) (e.symm.le.trans bot_le))))
    show (BitVec.ofNat 32 k.val).toInt ≤ (0#32).toInt
    rw [h0]
  · unfold Host.argReduceFiber
    refine List.mem_map.2 ⟨(⟨2, ![N, C]⟩ : Shape).rowMajor (ix2 r k), List.mem_filter.2 ⟨List.mem_finRange _, ?_⟩, ?_⟩
    · refine decide_eq_true ?_
      rw [Equiv.symm_apply_apply]
      exact hdrop
    · rw [Equiv.symm_apply_apply]
      rfl

/-- The labels are the second components of the host's search. -/
theorem labels_def (x : FVec Ideal Cert.ReferenceIdeal.S100000x20 .f32) : Ref.labels x = fun j =>
    (Host.argReduce (F := Ideal) (φ := .f32) (Cert.ReferenceIdeal.reducer_argmax_f32_i32 (F := Ideal)) x (iotaInDim Cert.ReferenceIdeal.S100000x20 32 1)
      (constant (F := Ideal) Cert.ReferenceIdeal.S_ .f32 0xFF800000#32) (constantI Cert.ReferenceIdeal.S_ 32 0#32)
      Cert.ReferenceIdeal.Facts₀.reducesTo_S100000x20_S100000_d1 Cert.ReferenceIdeal.Facts₀.h_S_ j).2 := rfl

/-- The reference's label of a row is the first column at which the row reaches its greatest entry. -/
theorem labels_eq (x : FVec Ideal Cert.ReferenceIdeal.S100000x20 .f32) (r : Fin 100000) (k : Fin 20)
    (h : FirstMax (fun j => x (ix2 r j)) k) : Ref.labels x (ix1 r) = BitVec.ofNat 32 k.val := by
  have hbot : constant (F := Ideal) Cert.ReferenceIdeal.S_ .f32 0xFF800000#32 (Shape.Idx.first Cert.ReferenceIdeal.Facts₀.h_S_) = (⊥ : EReal) := by
    show Ideal.ofBits .f32 0xFF800000#32 = ⊥
    simp [Ideal.ofBits, Ideal.ieee]
  have e := argmax_row (N := 100000) (C := 20) (u := Cert.ReferenceIdeal.S_) (by norm_num) x
    Cert.ReferenceIdeal.Facts₀.reducesTo_S100000x20_S100000_d1 Cert.ReferenceIdeal.Facts₀.h_S_
    (constant (F := Ideal) Cert.ReferenceIdeal.S_ .f32 0xFF800000#32) (constantI Cert.ReferenceIdeal.S_ 32 0#32) hbot rfl r k h
  have hr := congrFun (Ideal.argReduce_eq_reduce2 (φ := .f32) (Cert.ReferenceIdeal.reducer_argmax_f32_i32 (F := Ideal)) x (iotaInDim Cert.ReferenceIdeal.S100000x20 32 1)
    (constant (F := Ideal) Cert.ReferenceIdeal.S_ .f32 0xFF800000#32) (constantI Cert.ReferenceIdeal.S_ 32 0#32)
    Cert.ReferenceIdeal.Facts₀.reducesTo_S100000x20_S100000_d1 Cert.ReferenceIdeal.Facts₀.h_S_) (ix1 r)
  exact (congrFun (labels_def x) (ix1 r)).trans ((congrArg Prod.snd hr).trans e)

end Cert.Proof

end
-- ==== Proof.KHost.lean ====
module

public import proofs.«01_k».proof.Proof.Gen.KernelIdeal.Frame
public import Idealize.ShloMosaic.Lib.StableHlo.RunRead
public import Idealize.ShloMosaic.Lib.Pipeline.ValueKit
public import Idealize.ShloMosaic.PureOps.Ideal

@[expose] public section

set_option maxRecDepth 16384

noncomputable section

namespace Cert.Proof.Ker

open Idealize.ShloMosaic Idealize.ShloMosaic.TcCoe Idealize.ShloMosaic.Tactic
open Idealize.SL.Sem StableHlo
open Cert.KernelIdeal Cert.KernelIdeal.Gen

/-- A coordinate column laid out as a plane of 784 rows of 128, the places past its end at 1.0e6. -/
def coordPlane (coord : FVec Ideal S100000x3 .f32) (d : Fin 3) : FVec Ideal S784x128 .f32 := fun p =>
  if h : (p 0).val * 128 + (p 1).val < 100000 then coord (ix2 ⟨(p 0).val * 128 + (p 1).val, h⟩ d) else Ideal.ofBits .f32 0x49742400#32

/-- The labels laid out the same way, the places past the end at -1. -/
def labelPlane (lab : Fin 100000 → BitVec 32) : IVec S784x128 32 := fun p =>
  if h : (p 0).val * 128 + (p 1).val < 100000 then lab ⟨(p 0).val * 128 + (p 1).val, h⟩ else 4294967295#32

variable (V : Valuation τ sig (Elt Ideal))

set_option maxHeartbeats 1000000 in
/-- The host code after the first call lays the coordinates and the labels out as planes. -/
theorem host1_reads :
    after (hostOps1 (F := Ideal)) V (Proc.devRef .tc main_v8) = coordPlane (V (Proc.devRef .tc main_arg1)) 0
    ∧ after (hostOps1 (F := Ideal)) V (Proc.devRef .tc main_v12) = coordPlane (V (Proc.devRef .tc main_arg1)) 1
    ∧ after (hostOps1 (F := Ideal)) V (Proc.devRef .tc main_v16) = coordPlane (V (Proc.devRef .tc main_arg1)) 2
    ∧ after (hostOps1 (F := Ideal)) V (Proc.devRef .tc main_v20) = labelPlane (fun r => V (Proc.devRef .tc main_v3_1) (ix2 r 0)) := by
  after_reads_simp
  refine ⟨?_, ?_, ?_, ?_⟩
  · funext p
    unfold coordPlane
    pointwise
    refine dite_congr rfl (fun h => ?_) (fun h => ?_)
    · after_reads_simp
      pointwise
    · after_reads_simp
      pointwise
  · funext p
    unfold coordPlane
    pointwise
    refine dite_congr rfl (fun h => ?_) (fun h => ?_)
    · after_reads_simp
      pointwise
    · after_reads_simp
      pointwise
  · funext p
    unfold coordPlane
    pointwise
    refine dite_congr rfl (fun h => ?_) (fun h => ?_)
    · after_reads_simp
      pointwise
    · after_reads_simp
      pointwise
  · funext p
    unfold labelPlane
    pointwise
    refine dite_congr rfl (fun h => ?_) (fun h => ?_)
    · after_reads_simp
      pointwise
    · after_reads_simp
      pointwise

/-- The host code after the second call lays the mark plane out as a column. -/
theorem host2_reads :
    after (hostOps2 (F := Ideal)) V (Proc.devRef .tc main_v24) = fun i : S100000x1.Idx =>
      V (Proc.devRef .tc main_v21) (ix2 ⟨(i 0).val / 128, by have := (i 0).isLt; simp at this; omega⟩ ⟨(i 0).val % 128, Nat.mod_lt _ (by decide)⟩) := by
  after_reads_simp
  funext i
  pointwise

/-- The host code before the first call pads the weights with columns of zeros. -/
theorem host0_weights :
    after (hostOps0_1 (F := Ideal)) (after (hostOps0 (F := Ideal)) V) (Proc.devRef .tc main_v0) = fun i : S512x32.Idx =>
      if h : (i 1).val < 20 then V (Proc.devRef .tc main_arg2) (ix2 (i 0) ⟨(i 1).val, h⟩) else (0 : EReal) := by
  after_reads_simp
  funext i
  show pad S512x32 ![0, 0] ![0, 12] ![0, 0] (V (Proc.devRef .tc main_arg2)) (sitofp (F := Ideal) .f32 (constantI S_ 32 0#32))
    pads_S512x20_S512x32_000_0120 h_S_ i = _
  pointwise
  by_cases h : (i 1).val < 20
  · have h0 := (i 0).isLt
    rw [dif_pos h, dif_pos (fun a => by
      fin_cases a
      · exact ⟨Nat.zero_le _, Nat.mod_one _, by simpa using h0⟩
      · exact ⟨Nat.zero_le _, Nat.mod_one _, by simpa using h⟩)]
  · rw [dif_neg h, dif_neg (fun H => h (by simpa using (H 1).2.2))]
    show ((((0#32 : BitVec 32).toInt : ℝ)) : EReal) = 0
    simp

/-- It pads the bias with entries -1.0e30. -/
theorem host0_bias :
    after (hostOps0_3 (F := Ideal)) (after (hostOps0_2 (F := Ideal)) V) (Proc.devRef .tc main_v2) = fun i : S1x32.Idx =>
      if h : (i 1).val < 20 then V (Proc.devRef .tc main_arg3) (ix1 ⟨(i 1).val, h⟩) else Ideal.ofBits .f32 0xF149F2CA#32 := by
  after_reads_simp
  funext i
  show pad S1x32 ![0, 0] ![0, 12] ![0, 0] (fun i => shapeCast main_v1.ty.shape (V (Proc.devRef .tc main_arg3)) shapeCasts_S20_S1x20 i) (constant (F := Ideal) S_ .f32 0xF149F2CA#32)
    pads_S1x20_S1x32_000_0120 h_S_ i = _
  pointwise
  by_cases h : (i 1).val < 20
  · have h0 := (i 0).isLt
    rw [dif_pos h, dif_pos (fun a => by
      fin_cases a
      · exact ⟨Nat.zero_le _, Nat.mod_one _, by simpa using h0⟩
      · exact ⟨Nat.zero_le _, Nat.mod_one _, by simpa using h⟩)]
  · rw [dif_neg h, dif_neg (fun H => h (by simpa using (H 1).2.2))]

end Cert.Proof.Ker

end
-- ==== Proof.KReg0.lean ====
module

public import proofs.«01_k».proof.Proof.Gen.KernelIdeal.Frame
public import proofs.«01_k».proof.Proof.FirstMax
public import Idealize.ShloMosaic.Lib.Pipeline.ValueKit
public import Idealize.ShloMosaic.PureOps.Ideal

@[expose] public section

set_option maxRecDepth 16384

noncomputable section

namespace Cert.Proof.Ker

open Idealize.ShloMosaic Idealize.ShloMosaic.TcCoe Idealize.ShloMosaic.Tactic
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- One padded logit: the row's features times the column's weights, plus the column's bias. -/
def headAt (x : FVec Ideal S100000x512 .f32) (w : FVec Ideal S512x32 .f32) (b : FVec Ideal S1x32 .f32)
    (r : Fin 100000) (j : Fin 32) : EReal :=
  (∑ k : Fin 512, x (ix2 r k) * w (ix2 k j)) + b (ix2 0 j)

/-- The windows' block indices at a grid point: its row block, and the whole of the other axis. -/
theorem index0_0 : ∀ t : Fin cfg0.N, win0_0.index t = ![t.val, 0] := by decide +kernel
/-- The weights: always the whole. -/
theorem index0_1 : ∀ t : Fin cfg0.N, win0_1.index t = ![0, 0] := by decide +kernel
/-- The bias: always the whole. -/
theorem index0_2 : ∀ t : Fin cfg0.N, win0_2.index t = ![0, 0] := by decide +kernel
/-- The logits: a block of rows. -/
theorem index0_3 : ∀ t : Fin cfg0.N, win0_3.index t = ![t.val, 0] := by decide +kernel
/-- The labels: a block of rows. -/
theorem index0_4 : ∀ t : Fin cfg0.N, win0_4.index t = ![t.val, 0] := by decide +kernel

/-- The first call's logits. -/
theorem region0_logits (c : Dev nD) :
    (dat0 V c).arrAt 3 cfg0.N = fun i : S100000x20.Idx =>
      headAt (V c main_arg0) (V c main_v0) (V c main_v2) (i 0) ⟨(i 1).val, Nat.lt_of_lt_of_le (i 1).isLt (by decide : S100000x20.size 1 ≤ 32)⟩ := by
  refine (dat0 V c).arrAt_eq_of_covers 3 _ (by decide +kernel) fun t hf y => ?_
  blk_simp
  rw [after0_3]
  frame_out
  unfold k0_pay2 k0_pay1
  pointwise
  unfold headAt
  blk_point [iblk0, index0_0 t, index0_1 t, index0_2 t, index0_3 t]

/-- The labels' payload. -/
theorem pay3_apply (x : FVec Ideal S2000x512 .f32) (w : FVec Ideal S512x32 .f32) (b : FVec Ideal S1x32 .f32) (y : S2000x1.Idx) :
    k0_pay3 (F := Ideal) x w b y = rowLabel fun j => k0_pay1 (F := Ideal) x w b (ix2 (y 0) j) := by
  unfold k0_pay3 rowLabel
  rw [← show Ideal.ofBits .f32 4286578688#32 = ⊥ by simp [Ideal.ofBits, Ideal.ieee]]
  generalize k0_pay1 (F := Ideal) x w b = u
  pointwise

/-- The first call's labels. -/
theorem region0_labels (c : Dev nD) :
    (dat0 V c).arrAt 4 cfg0.N = fun i : S100000x1.Idx =>
      rowLabel (headAt (V c main_arg0) (V c main_v0) (V c main_v2) (i 0)) := by
  refine (dat0 V c).arrAt_eq_of_covers 4 _ (by decide +kernel) fun t hf y => ?_
  blk_simp
  rw [after0_4]
  frame_out
  rw [pay3_apply]
  refine congrArg rowLabel (funext fun j => ?_)
  unfold k0_pay1
  pointwise
  unfold headAt
  blk_point [iblk0, index0_0 t, index0_1 t, index0_2 t, index0_4 t]

end Cert.Proof.Ker

end
-- ==== Proof.KPlane.lean ====
module

public import proofs.«01_k».proof.Proof.Gen.KernelIdeal.Frame

@[expose] public section

set_option maxRecDepth 16384

noncomputable section

namespace Cert.Proof.Ker

open Idealize.ShloMosaic Idealize.ShloMosaic.TcCoe Idealize.ShloMosaic.Tactic
open Idealize.SL.Sem
open Cert.KernelIdeal Cert.KernelIdeal.Gen

variable {F : FTy → Type} [FloatOps F]

/-- The sum of a plane's elements. -/
def total (x : FVec F S784x128 .f32) : F .f32 :=
  extractAt ![0, 0, 0] (shapeCast S1x1x1 (multiReduction .add [1, 2] S1 (shapeCast S1x784x128 x shapeCasts_S784x128_S1x784x128)
    0x00000000#32 reduces_S1x784x128_S1 (.inl rfl) rfl) shapeCasts_S1_S1x1x1) inpos_S1x1x1_p0_0_0

/-- The least of a plane's elements. -/
def least (x : FVec F S784x128 .f32) : F .f32 :=
  extractAt ![0, 0, 0] (shapeCast S1x1x1 (multiReduction .minimumf [1, 2] S1 (shapeCast S1x784x128 x shapeCasts_S784x128_S1x784x128)
    0x7F800000#32 reduces_S1x784x128_S1 (.inl rfl) rfl) shapeCasts_S1_S1x1x1) inpos_S1x1x1_p0_0_0

/-- Where the label is `c`. -/
def planeMask (lab : IVec S784x128 32) (c : BitVec 32) : IVec S784x128 1 := cmpi .eq lab (broadcast S784x128 c)

/-- How many places bear the label `c`, one at least. -/
def planeCount (lab : IVec S784x128 32) (c : BitVec 32) : F .f32 :=
  Scalar.maximumf (total (select (planeMask lab c) (broadcast S784x128 (Scalar.ofBits .f32 0x3F800000#32))
    (broadcast S784x128 (Scalar.ofBits .f32 0x00000000#32)))) (Scalar.ofBits .f32 0x3F800000#32)

/-- The mean of one coordinate over the places labelled `c`. -/
def planeMean (lab : IVec S784x128 32) (c : BitVec 32) (x : FVec F S784x128 .f32) : F .f32 :=
  Scalar.divf (total (select (planeMask lab c) x (broadcast S784x128 (Scalar.ofBits .f32 0x00000000#32)))) (planeCount lab c)

/-- The squared offsets of one coordinate from that mean. -/
def planeSquare (lab : IVec S784x128 32) (c : BitVec 32) (x : FVec F S784x128 .f32) : FVec F S784x128 .f32 :=
  mulf (subf x (broadcast S784x128 (planeMean lab c x))) (subf x (broadcast S784x128 (planeMean lab c x)))

/-- The squared distances from the mean position of class `c`. -/
def planeDist (x y z : FVec F S784x128 .f32) (lab : IVec S784x128 32) (c : BitVec 32) : FVec F S784x128 .f32 :=
  addf (addf (planeSquare lab c x) (planeSquare lab c y)) (planeSquare lab c z)

/-- The least element above `t`. -/
def nextAbove (d : FVec F S784x128 .f32) (t : F .f32) : F .f32 :=
  least (select (cmpf .ogt d (broadcast S784x128 t)) d (broadcast S784x128 (Scalar.ofBits .f32 0x7F61B1E6#32)))

/-- The threshold after `n` steps up from the least element. -/
def threshold (d : FVec F S784x128 .f32) : Nat → F .f32
  | 0 => least d
  | n + 1 => nextAbove d (threshold d n)

/-- The places labelled `c` whose distance is above the threshold after 24 steps. -/
def planeFar (x y z : FVec F S784x128 .f32) (lab : IVec S784x128 32) (c : BitVec 32) : IVec S784x128 1 :=
  andi (planeMask lab c) (cmpf .ogt (planeDist x y z lab c) (broadcast S784x128 (threshold (planeDist x y z lab c) 24)))

/-- Whether any of the eight classes resets a place: 1.0 or 0.0. -/
def resetPlane (x y z : FVec F S784x128 .f32) (lab : IVec S784x128 32) : FVec F S784x128 .f32 :=
  select (ori (ori (ori (ori (ori (ori (ori (ori (broadcast S784x128 0#1) (planeFar x y z lab 8#32)) (planeFar x y z lab 9#32))
      (planeFar x y z lab 10#32)) (planeFar x y z lab 11#32)) (planeFar x y z lab 12#32)) (planeFar x y z lab 13#32))
      (planeFar x y z lab 14#32)) (planeFar x y z lab 15#32))
    (broadcast S784x128 (Scalar.ofBits .f32 0x3F800000#32)) (broadcast S784x128 (Scalar.ofBits .f32 0x00000000#32))

set_option maxHeartbeats 4000000 in
/-- What the second call stores is the reset plane of its four loads. -/
theorem out1_eq (x y z : Vec F S784x128 .f32) (lab : Vec F S784x128 .i32) :
    out1_4 x y z lab = View.canon [⟨r1_0, resetPlane (k1_pay244 x y z lab) (k1_pay245 x y z lab) (k1_pay246 x y z lab) (k1_pay247 x y z lab)⟩] := by
  rfl

end Cert.Proof.Ker

end
-- ==== Proof.KReg1.lean ====
module

public import proofs.«01_k».proof.Proof.KPlane
public import Idealize.ShloMosaic.Lib.Pipeline.ValueKit
public import Idealize.ShloMosaic.PureOps.Ideal

@[expose] public section

set_option maxRecDepth 16384

noncomputable section

namespace Cert.Proof.Ker

open Idealize.ShloMosaic Idealize.ShloMosaic.TcCoe Idealize.ShloMosaic.Tactic
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The windows of the second call are whole arrays. The first coordinate. -/
theorem index1_0 : ∀ t : Fin cfg1.N, win1_0.index t = ![0, 0] := by decide +kernel
/-- The second coordinate. -/
theorem index1_1 : ∀ t : Fin cfg1.N, win1_1.index t = ![0, 0] := by decide +kernel
/-- The third coordinate. -/
theorem index1_2 : ∀ t : Fin cfg1.N, win1_2.index t = ![0, 0] := by decide +kernel
/-- The labels. -/
theorem index1_3 : ∀ t : Fin cfg1.N, win1_3.index t = ![0, 0] := by decide +kernel
/-- The marks. -/
theorem index1_4 : ∀ t : Fin cfg1.N, win1_4.index t = ![0, 0] := by decide +kernel

/-- The second call's array: the reset plane of its four operands. -/
theorem region1_reset (c : Dev nD) :
    (dat1 V c).arrAt 4 cfg1.N = fun i : S784x128.Idx =>
      resetPlane (F := Ideal) (V c main_v8) (V c main_v12) (V c main_v16) (V c main_v20) i := by
  refine (dat1 V c).arrAt_eq_of_covers 4 _ (by decide +kernel) fun t hf y => ?_
  blk_simp
  rw [after1_4]
  rw [out1_eq]
  unfold k1_pay244 k1_pay245 k1_pay246 k1_pay247 k1_pay2 k1_pay3 k1_pay4 k1_pay5
  frame_out
  simp only [shapeCast_id, shapeCast_self]
  have h0 : iblk1 V c 0 t = V c main_v8 := by
    funext z
    blk_point [iblk1, index1_0 t]
  have h1 : iblk1 V c 1 t = V c main_v12 := by
    funext z
    blk_point [iblk1, index1_1 t]
  have h2 : iblk1 V c 2 t = V c main_v16 := by
    funext z
    blk_point [iblk1, index1_2 t]
  have h3 : iblk1 V c 3 t = V c main_v20 := by
    funext z
    blk_point [iblk1, index1_3 t]
  rw [h0, h1, h2, h3]
  generalize resetPlane (F := Ideal) (V c main_v8) (V c main_v12) (V c main_v16) (V c main_v20) = R
  blk_point [index1_4 t]

/-- The sum of a plane, over its rows and columns. -/
theorem total_eq (x : FVec Ideal S784x128 .f32) : total x = ∑ a : Fin 784, ∑ b : Fin 128, x (ix2 a b) := by
  unfold total
  pointwise

/-- The least element of a plane. -/
theorem least_eq (x : FVec Ideal S784x128 .f32) : least x = Finset.univ.fold min ⊤ (fun p : Fin 784 × Fin 128 => x (ix2 p.1 p.2)) := by
  rw [show (⊤ : EReal) = Ideal.ofBits .f32 2139095040#32 by simp [Ideal.ofBits, Ideal.ieee]]
  unfold least
  pointwise

end Cert.Proof.Ker

end
-- ==== Proof.KReg2.lean ====
module

public import proofs.«01_k».proof.Proof.Gen.KernelIdeal.Frame
public import Idealize.ShloMosaic.Lib.Pipeline.ValueKit
public import Idealize.ShloMosaic.PureOps.Ideal

@[expose] public section

set_option maxRecDepth 16384

noncomputable section

namespace Cert.Proof.Ker

open Idealize.ShloMosaic Idealize.ShloMosaic.TcCoe Idealize.ShloMosaic.Tactic
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The windows' block indices at a grid point. The logits: a block of rows. -/
theorem index2_0 : ∀ t : Fin cfg2.N, win2_0.index t = ![t.val, 0] := by decide +kernel
/-- The marks: a block of rows. -/
theorem index2_1 : ∀ t : Fin cfg2.N, win2_1.index t = ![t.val, 0] := by decide +kernel
/-- The result: a block of rows. -/
theorem index2_2 : ∀ t : Fin cfg2.N, win2_2.index t = ![t.val, 0] := by decide +kernel

/-- The target row: 10 in column 1, zero elsewhere, as the third call forms it. -/
def targetAt (j : Fin 20) : EReal :=
  Scalar.select (IntOp.cmpi .eq (BitVec.ofNat 32 j.val) 1#32) (Ideal.ofBits .f32 1092616192#32) 0

/-- The element the third call writes: the target row's where the row's mark is not zero, the logit otherwise. -/
def applied (m : EReal) (j : Fin 20) (l : EReal) : EReal := if m ≠ 0 then targetAt j else l

/-- The third call's array. -/
theorem region2_result (c : Dev nD) :
    (dat2 V c).arrAt 2 cfg2.N = fun i : S100000x20.Idx =>
      applied (V c main_v24 (ix2 (i 0) 0)) (i 1) (V c main_v3_0 i) := by
  refine (dat2 V c).arrAt_eq_of_covers 2 _ (by decide +kernel) fun t hf y => ?_
  blk_simp
  rw [after2_2]
  frame_out
  unfold k2_pay1
  pointwise
  unfold applied targetAt
  blk_point [iblk2, index2_0 t, index2_1 t, index2_2 t]

end Cert.Proof.Ker

end
-- ==== Proof.KValue.lean ====
module

public import proofs.«01_k».proof.Proof.KHost
public import proofs.«01_k».proof.Proof.KReg0
public import proofs.«01_k».proof.Proof.KReg1
public import proofs.«01_k».proof.Proof.KReg2

@[expose] public section

set_option maxRecDepth 16384

noncomputable section

namespace Cert.Proof.Ker

open Idealize.ShloMosaic Idealize.ShloMosaic.TcCoe Idealize.ShloMosaic.Tactic
open Idealize.SL.Sem StableHlo
open Cert.KernelIdeal Cert.KernelIdeal.Gen

/-- The weights with twelve columns of zeros behind. -/
def wpad (W : FVec Ideal S512x20 .f32) : FVec Ideal S512x32 .f32 := fun i =>
  if h : (i 1).val < 20 then W (ix2 (i 0) ⟨(i 1).val, h⟩) else (0 : EReal)

/-- The bias as a row with twelve entries -1.0e30 behind. -/
def bpad (b : FVec Ideal S20 .f32) : FVec Ideal S1x32 .f32 := fun i =>
  if h : (i 1).val < 20 then b (ix1 ⟨(i 1).val, h⟩) else Ideal.ofBits .f32 0xF149F2CA#32

/-- A row's 32 logits. -/
def headRow (feat : FVec Ideal S100000x512 .f32) (W : FVec Ideal S512x20 .f32) (b : FVec Ideal S20 .f32) (r : Fin 100000) : Fin 32 → EReal :=
  headAt feat (wpad W) (bpad b) r

/-- Where row `r` lies in a plane. -/
def place (r : Fin 100000) : S784x128.Idx :=
  ix2 ⟨r.val / 128, by have := r.isLt; omega⟩ ⟨r.val % 128, Nat.mod_lt _ (by decide)⟩

/-- The kernel's result as a function of its arguments. -/
def value (feat : FVec Ideal S100000x512 .f32) (coord : FVec Ideal S100000x3 .f32) (W : FVec Ideal S512x20 .f32)
    (b : FVec Ideal S20 .f32) : FVec Ideal S100000x20 .f32 := fun i =>
  applied (resetPlane (F := Ideal) (coordPlane coord 0) (coordPlane coord 1) (coordPlane coord 2)
      (labelPlane fun r => rowLabel (headRow feat W b r)) (place (i 0)))
    (i 1) (headRow feat W b (i 0) ⟨(i 1).val, Nat.lt_of_lt_of_le (i 1).isLt (by decide : S100000x20.size 1 ≤ 32)⟩)

variable (m : (b : Loc nD τ sig) → Buf (Elt Ideal) b) (ρ : Dev nD → PrngReg)

/-- What the first call reads as its weights. -/
theorem W4_main_v0 (c : Dev nD) : W4 m ρ c (Proc.devRef .tc main_v0) = wpad (m ((c : Thread nD τ).loc main_arg2)) := by
  rw [W4_of m ρ c main_v0 (by decide), W3_of m ρ c main_v0 (by decide)]
  exact host0_weights (W0 m ρ c)

/-- What the first call reads as its bias. -/
theorem W4_main_v2 (c : Dev nD) : W4 m ρ c (Proc.devRef .tc main_v2) = bpad (m ((c : Thread nD τ).loc main_arg3)) := by
  refine (host0_bias (W2 m ρ c)).trans ?_
  rw [W2_args m ρ c main_arg3 (by decide)]
  rfl

/-- What the three calls leave in the result buffer. -/
theorem W9_main_v25 (c : Dev nD) : W9 m ρ c (Proc.devRef .tc main_v25)
    = value (m ((c : Thread nD τ).loc main_arg0)) (m ((c : Thread nD τ).loc main_arg1)) (m ((c : Thread nD τ).loc main_arg2))
        (m ((c : Thread nD τ).loc main_arg3)) := by
  have a0 : V4 m ρ c main_arg0 = m ((c : Thread nD τ).loc main_arg0) := W4_args m ρ c main_arg0 (by decide)
  have w0 : V4 m ρ c main_v0 = wpad (m ((c : Thread nD τ).loc main_arg2)) := W4_main_v0 m ρ c
  have b0 : V4 m ρ c main_v2 = bpad (m ((c : Thread nD τ).loc main_arg3)) := W4_main_v2 m ρ c
  have e3 := (W5_arr m ρ c 3).trans (region0_logits (V4 m ρ) c)
  have e4 := (W5_arr m ρ c 4).trans (region0_labels (V4 m ρ) c)
  rw [a0, w0, b0] at e3 e4
  obtain ⟨x0, x1, x2, x3⟩ := host1_reads (W5 m ρ c)
  have a1 : W5 m ρ c (Proc.devRef .tc main_arg1) = m ((c : Thread nD τ).loc main_arg1) := W5_args m ρ c main_arg1 (by decide)
  have e7 := (W7_arr m ρ c 4).trans (region1_reset (V6 m ρ) c)
  rw [a1] at x0 x1 x2
  have y0 : V6 m ρ c main_v8 = _ := x0
  have y1 : V6 m ρ c main_v12 = _ := x1
  have y2 : V6 m ρ c main_v16 = _ := x2
  have y3 : V6 m ρ c main_v20 = labelPlane fun r => rowLabel (headRow (m ((c : Thread nD τ).loc main_arg0))
      (m ((c : Thread nD τ).loc main_arg2)) (m ((c : Thread nD τ).loc main_arg3)) r) :=
    x3.trans (congrArg labelPlane (funext fun r => congrFun e4 (ix2 r 0)))
  rw [y0, y1, y2, y3] at e7
  have e8 := host2_reads (W7 m ρ c)
  have l8 : W8 m ρ c (Proc.devRef .tc main_v3_0) = W5 m ρ c (Proc.devRef .tc main_v3_0) := by
    rw [W8_of m ρ c main_v3_0 (by decide), W7_of m ρ c main_v3_0 (by decide), W6_of m ρ c main_v3_0 (by decide)]
  refine ((W9_arr m ρ c 2).trans (region2_result (V8 m ρ) c)).trans ?_
  funext i
  unfold value
  have g1 : V8 m ρ c main_v24 (ix2 (i 0) 0) = resetPlane (F := Ideal) (coordPlane (m ((c : Thread nD τ).loc main_arg1)) 0)
      (coordPlane (m ((c : Thread nD τ).loc main_arg1)) 1) (coordPlane (m ((c : Thread nD τ).loc main_arg1)) 2)
      (labelPlane fun r => rowLabel (headRow (m ((c : Thread nD τ).loc main_arg0)) (m ((c : Thread nD τ).loc main_arg2))
        (m ((c : Thread nD τ).loc main_arg3)) r)) (place (i 0)) :=
    (congrFun e8 (ix2 (i 0) 0)).trans (congrFun e7 _)
  have g2 : V8 m ρ c main_v3_0 i = headRow (m ((c : Thread nD τ).loc main_arg0)) (m ((c : Thread nD τ).loc main_arg2))
      (m ((c : Thread nD τ).loc main_arg3)) (i 0) ⟨(i 1).val, Nat.lt_of_lt_of_le (i 1).isLt (by decide : S100000x20.size 1 ≤ 32)⟩ :=
    (congrFun l8 i).trans (congrFun e3 i)
  rw [g1, g2]

end Cert.Proof.Ker

end
-- ==== Proof.RefRead.lean ====
module

public import proofs.«01_k».proof.Proof.RefOps
public import proofs.«01_k».proof.Proof.RefStep
public import Idealize.ShloMosaic.Lib.StableHlo.RunRead

@[expose] public section

noncomputable section

namespace Cert.Proof.Ref

open Idealize.ShloMosaic Idealize.SL.Sem StableHlo
open Cert.ReferenceIdeal

/-- The operations before the classes' passes. -/
def head : List (HloOp τ sig (Elt Ideal)) := line.1.take 15

/-- The operations of the class at position `k` (the classes are 8, …, 15). -/
def block (k : ℕ) : List (HloOp τ sig (Elt Ideal)) := (line.1.drop (15 + 52 * k)).take 52

set_option maxHeartbeats 0 in
set_option maxRecDepth 100000 in
/-- Each class's pass leaves its result as `step` of the one before. -/
theorem block_result (V : Valuation τ sig (Elt Ideal)) :
    after (block 0) V (Proc.devRef .tc main_v41) =
      step (V (Proc.devRef .tc main_v4)) (V (Proc.devRef .tc main_arg1)) 8#32 (V (Proc.devRef .tc main_v7)) (V (Proc.devRef .tc main_v3))
    ∧ after (block 1) V (Proc.devRef .tc main_v75) =
      step (V (Proc.devRef .tc main_v4)) (V (Proc.devRef .tc main_arg1)) 9#32 (V (Proc.devRef .tc main_v7)) (V (Proc.devRef .tc main_v41))
    ∧ after (block 2) V (Proc.devRef .tc main_v109) =
      step (V (Proc.devRef .tc main_v4)) (V (Proc.devRef .tc main_arg1)) 10#32 (V (Proc.devRef .tc main_v7)) (V (Proc.devRef .tc main_v75))
    ∧ after (block 3) V (Proc.devRef .tc main_v143) =
      step (V (Proc.devRef .tc main_v4)) (V (Proc.devRef .tc main_arg1)) 11#32 (V (Proc.devRef .tc main_v7)) (V (Proc.devRef .tc main_v109))
    ∧ after (block 4) V (Proc.devRef .tc main_v177) =
      step (V (Proc.devRef .tc main_v4)) (V (Proc.devRef .tc main_arg1)) 12#32 (V (Proc.devRef .tc main_v7)) (V (Proc.devRef .tc main_v143))
    ∧ after (block 5) V (Proc.devRef .tc main_v211) =
      step (V (Proc.devRef .tc main_v4)) (V (Proc.devRef .tc main_arg1)) 13#32 (V (Proc.devRef .tc main_v7)) (V (Proc.devRef .tc main_v177))
    ∧ after (block 6) V (Proc.devRef .tc main_v245) =
      step (V (Proc.devRef .tc main_v4)) (V (Proc.devRef .tc main_arg1)) 14#32 (V (Proc.devRef .tc main_v7)) (V (Proc.devRef .tc main_v211))
    ∧ after (block 7) V (Proc.devRef .tc main_v279) =
      step (V (Proc.devRef .tc main_v4)) (V (Proc.devRef .tc main_arg1)) 15#32 (V (Proc.devRef .tc main_v7)) (V (Proc.devRef .tc main_v245)) := by
  refine ⟨?_, ?_, ?_, ?_, ?_, ?_, ?_, ?_⟩ <;> (after_reads_simp; rfl)

set_option maxHeartbeats 0 in
set_option maxRecDepth 100000 in
/-- No class's pass writes the labels. -/
theorem block_labels (V : Valuation τ sig (Elt Ideal)) :
    after (block 0) V (Proc.devRef .tc main_v4) = V (Proc.devRef .tc main_v4)
    ∧ after (block 1) V (Proc.devRef .tc main_v4) = V (Proc.devRef .tc main_v4)
    ∧ after (block 2) V (Proc.devRef .tc main_v4) = V (Proc.devRef .tc main_v4)
    ∧ after (block 3) V (Proc.devRef .tc main_v4) = V (Proc.devRef .tc main_v4)
    ∧ after (block 4) V (Proc.devRef .tc main_v4) = V (Proc.devRef .tc main_v4)
    ∧ after (block 5) V (Proc.devRef .tc main_v4) = V (Proc.devRef .tc main_v4)
    ∧ after (block 6) V (Proc.devRef .tc main_v4) = V (Proc.devRef .tc main_v4)
    ∧ after (block 7) V (Proc.devRef .tc main_v4) = V (Proc.devRef .tc main_v4) := by
  refine ⟨?_, ?_, ?_, ?_, ?_, ?_, ?_, ?_⟩ <;> after_reads_simp

set_option maxHeartbeats 0 in
set_option maxRecDepth 100000 in
/-- No class's pass writes the target row. -/
theorem block_target (V : Valuation τ sig (Elt Ideal)) :
    after (block 0) V (Proc.devRef .tc main_v7) = V (Proc.devRef .tc main_v7)
    ∧ after (block 1) V (Proc.devRef .tc main_v7) = V (Proc.devRef .tc main_v7)
    ∧ after (block 2) V (Proc.devRef .tc main_v7) = V (Proc.devRef .tc main_v7)
    ∧ after (block 3) V (Proc.devRef .tc main_v7) = V (Proc.devRef .tc main_v7)
    ∧ after (block 4) V (Proc.devRef .tc main_v7) = V (Proc.devRef .tc main_v7)
    ∧ after (block 5) V (Proc.devRef .tc main_v7) = V (Proc.devRef .tc main_v7)
    ∧ after (block 6) V (Proc.devRef .tc main_v7) = V (Proc.devRef .tc main_v7)
    ∧ after (block 7) V (Proc.devRef .tc main_v7) = V (Proc.devRef .tc main_v7) := by
  refine ⟨?_, ?_, ?_, ?_, ?_, ?_, ?_, ?_⟩ <;> after_reads_simp

set_option maxHeartbeats 0 in
set_option maxRecDepth 100000 in
/-- No class's pass writes the coordinates. -/
theorem block_coord (V : Valuation τ sig (Elt Ideal)) :
    after (block 0) V (Proc.devRef .tc main_arg1) = V (Proc.devRef .tc main_arg1)
    ∧ after (block 1) V (Proc.devRef .tc main_arg1) = V (Proc.devRef .tc main_arg1)
    ∧ after (block 2) V (Proc.devRef .tc main_arg1) = V (Proc.devRef .tc main_arg1)
    ∧ after (block 3) V (Proc.devRef .tc main_arg1) = V (Proc.devRef .tc main_arg1)
    ∧ after (block 4) V (Proc.devRef .tc main_arg1) = V (Proc.devRef .tc main_arg1)
    ∧ after (block 5) V (Proc.devRef .tc main_arg1) = V (Proc.devRef .tc main_arg1)
    ∧ after (block 6) V (Proc.devRef .tc main_arg1) = V (Proc.devRef .tc main_arg1)
    ∧ after (block 7) V (Proc.devRef .tc main_arg1) = V (Proc.devRef .tc main_arg1) := by
  refine ⟨?_, ?_, ?_, ?_, ?_, ?_, ?_, ?_⟩ <;> after_reads_simp

set_option maxHeartbeats 0 in
set_option maxRecDepth 100000 in
/-- The line is the head followed by the eight blocks. -/
theorem parts : line.1 = head ++ (block 0 ++ (block 1 ++ (block 2 ++ (block 3 ++ (block 4 ++ (block 5 ++ (block 6 ++ block 7))))))) := by
  rfl

set_option maxHeartbeats 0 in
set_option maxRecDepth 100000 in
/-- The head leaves the logits. -/
theorem head_logits (V : Valuation τ sig (Elt Ideal)) :
    after head V (Proc.devRef .tc main_v3) =
      logits (V (Proc.devRef .tc main_arg0)) (V (Proc.devRef .tc main_arg2)) (V (Proc.devRef .tc main_arg3)) := by
  after_reads_simp
  rfl

set_option maxHeartbeats 0 in
set_option maxRecDepth 100000 in
/-- The head leaves the labels. -/
theorem head_labels (V : Valuation τ sig (Elt Ideal)) :
    after head V (Proc.devRef .tc main_v4) =
      labels (logits (V (Proc.devRef .tc main_arg0)) (V (Proc.devRef .tc main_arg2)) (V (Proc.devRef .tc main_arg3))) := by
  after_reads_simp
  rfl

set_option maxHeartbeats 0 in
set_option maxRecDepth 100000 in
/-- The head leaves the target row. -/
theorem head_target (V : Valuation τ sig (Elt Ideal)) :
    after head V (Proc.devRef .tc main_v7) = target := by
  after_reads_simp
  rfl

set_option maxHeartbeats 0 in
set_option maxRecDepth 100000 in
/-- The coordinates before the classes' passes are the argument's. -/
theorem head_coord (V : Valuation τ sig (Elt Ideal)) :
    after head V (Proc.devRef .tc main_arg1) = V (Proc.devRef .tc main_arg1) := by
  after_reads_simp

end Cert.Proof.Ref

end
-- ==== Proof.RefResult.lean ====
module

public import proofs.«01_k».proof.Proof.RefRead
public import Idealize.ShloMosaic.Lib.Pipeline.Frame

@[expose] public section

noncomputable section

namespace Cert.Proof.Ref

open Idealize.ShloMosaic Idealize.SL.Sem StableHlo
open Cert.ReferenceIdeal

/-- The reference's result, as a function of its arguments. -/
def result (feat : FVec Ideal S100000x512 .f32) (coord : FVec Ideal S100000x3 .f32) (W : FVec Ideal S512x20 .f32)
    (b : FVec Ideal S20 .f32) : FVec Ideal S100000x20 .f32 :=
  let x := logits feat W b
  let s := fun c => step (labels x) coord c target
  s 15#32 (s 14#32 (s 13#32 (s 12#32 (s 11#32 (s 10#32 (s 9#32 (s 8#32 x)))))))

/-- What the line leaves in the result buffer. -/
theorem line_result (V : Valuation τ sig (Elt Ideal)) :
    after line.1 V (Proc.devRef .tc main_v279) =
      result (V (Proc.devRef .tc main_arg0)) (V (Proc.devRef .tc main_arg1)) (V (Proc.devRef .tc main_arg2))
        (V (Proc.devRef .tc main_arg3)) := by
  have hr := block_result
  have hl := block_labels
  have ht := block_target
  have hc := block_coord
  have h3 := head_logits V
  have h4 := head_labels V
  have h7 := head_target V
  have h1 := head_coord V
  have hp := parts
  generalize line.1 = L at hp ⊢
  generalize head = B at *
  generalize block 0 = b0 at *
  generalize block 1 = b1 at *
  generalize block 2 = b2 at *
  generalize block 3 = b3 at *
  generalize block 4 = b4 at *
  generalize block 5 = b5 at *
  generalize block 6 = b6 at *
  generalize block 7 = b7 at *
  subst hp
  rw [after_append, after_append, after_append, after_append, after_append, after_append, after_append, after_append]
  generalize after B V = V0 at *
  have l0 := (hl V0).1; have t0 := (ht V0).1; have c0 := (hc V0).1; have r0 := (hr V0).1
  generalize after b0 V0 = V1 at *
  have l1 := (hl V1).2.1; have t1 := (ht V1).2.1; have c1 := (hc V1).2.1; have r1 := (hr V1).2.1
  generalize after b1 V1 = V2 at *
  have l2 := (hl V2).2.2.1; have t2 := (ht V2).2.2.1; have c2 := (hc V2).2.2.1; have r2 := (hr V2).2.2.1
  generalize after b2 V2 = V3 at *
  have l3 := (hl V3).2.2.2.1; have t3 := (ht V3).2.2.2.1; have c3 := (hc V3).2.2.2.1; have r3 := (hr V3).2.2.2.1
  generalize after b3 V3 = V4 at *
  have l4 := (hl V4).2.2.2.2.1; have t4 := (ht V4).2.2.2.2.1; have c4 := (hc V4).2.2.2.2.1; have r4 := (hr V4).2.2.2.2.1
  generalize after b4 V4 = V5 at *
  have l5 := (hl V5).2.2.2.2.2.1; have t5 := (ht V5).2.2.2.2.2.1; have c5 := (hc V5).2.2.2.2.2.1
  have r5 := (hr V5).2.2.2.2.2.1
  generalize after b5 V5 = V6 at *
  have l6 := (hl V6).2.2.2.2.2.2.1; have t6 := (ht V6).2.2.2.2.2.2.1; have c6 := (hc V6).2.2.2.2.2.2.1
  have r6 := (hr V6).2.2.2.2.2.2.1
  generalize after b6 V6 = V7 at *
  rw [(hr V7).2.2.2.2.2.2.2, r6, r5, r4, r3, r2, r1, r0, l6, t6, c6, l5, t5, c5, l4, t4, c4, l3, t3, c3, l2, t2, c2,
    l1, t1, c1, l0, t0, c0, h3, h4, h7, h1]
  rfl

end Cert.Proof.Ref

end
-- ==== Proof.PreFacts.lean ====
module

public import proofs.«01_k».proof.Pre_no_ties
public import Idealize.ShloMosaic.Lib.Decide

@[expose] public section

namespace Cert.Proof

open Cert.Pre_no_ties

/-- The side conditions the precondition's operations state. -/
instance preFacts : Cert.Pre_no_ties.Facts where
  bcast_S20_S1x20_1 := by decide
  bcast_S1x20_S100000x20_0_1 := by decide
  reducesTo_S100000x20_S100000_d1 := by decide
  h_S_ := by decide
  bcast_S_S100000 := by decide
  reducesTo_S100000_S_d0 := by decide
  bcast_S_S100000x3 := by decide
  reducesTo_S100000x3_S_d0_1 := by decide
  natLt_1_32 := by decide
  bcast_S100000_S100000x1_0 := by decide
  bcast_S100000x1_S100000x3_0_1 := by decide
  reducesTo_S100000x3_S3_d0 := by decide
  bcast_S_S3 := by decide
  bcast_S3_S1x3_1 := by decide
  bcast_S1x3_S100000x3_0_1 := by decide
  reducesTo_S100000x3_S100000_d1 := by decide
  sliceFits_S100000_S26 := by decide
  slices_S26_S25_0 := by decide
  slices_S26_S25_1 := by decide
  reducesTo_S25_S_d0 := by decide
  dot_S100000x512_S512x20_S100000x20_1_0_0_1_n_n_wf := by decide

end Cert.Proof
-- ==== Proof.Threshold.lean ====
module

public import Mathlib.Data.Finset.Fold
public import Mathlib.Data.Finset.Lattice.Fold
public import Mathlib.Data.Fintype.Basic
public import Mathlib.Order.Lattice

@[expose] public section

namespace Cert.Proof

variable {ι α : Type*} [Fintype ι] [LinearOrder α]

/-- A fold of `min` is any value that is reached and that bounds every element below. -/
theorem fold_min_eq (f : ι → α) (top v : α) (p : ι) (hp : f p = v) (hf : ∀ i, v ≤ f i) (htop : v ≤ top) :
    Finset.univ.fold min top f = v := by
  refine le_antisymm ?_ ?_
  · exact (Finset.fold_min_le v).2 (.inr ⟨p, Finset.mem_univ p, hp.le⟩)
  · exact (Finset.le_fold_min v).2 ⟨htop, fun i _ => hf i⟩

/-- Steps up through the values of `E`: the least one, then each time the least one above the last (`B` standing for
    the values that are not). -/
def climb (E : ι → α) (B top : α) : ℕ → α
  | 0 => Finset.univ.fold min top E
  | n + 1 => Finset.univ.fold min top (fun p => if climb E B top n < E p then E p else B)

/-- Where the 26 least values are distinct, reached at the points `q 0, …, q 25`, and every other point's value is at
    least `E (q 25)`, step `n` of the climb is at `E (q n)`. -/
theorem climb_eq (E : ι → α) (B top : α) (q : ℕ → ι) (hq : ∀ k, k < 25 → E (q k) < E (q (k + 1)))
    (hE : ∀ p, (∃ k, k < 25 ∧ p = q k) ∨ E (q 25) ≤ E p) (hB : ∀ p, E p ≤ B) (htop : B ≤ top) :
    ∀ n, n ≤ 24 → climb E B top n = E (q n) := by
  have mono : ∀ j k, j ≤ k → k ≤ 25 → E (q j) ≤ E (q k) := by
    intro j k hjk
    induction k, hjk using Nat.le_induction with
    | base => exact fun _ => le_refl _
    | succ k _ ih => exact fun h => (ih (by omega)).trans (hq k (by omega)).le
  intro n
  induction n with
  | zero =>
    intro _
    refine fold_min_eq E top _ (q 0) rfl (fun p => ?_) ((hB _).trans htop)
    rcases hE p with ⟨k, hk, rfl⟩ | h
    · exact mono 0 k (Nat.zero_le k) (by omega)
    · exact (mono 0 25 (by omega) le_rfl).trans h
  | succ n ih =>
    intro hn
    have hn' := ih (by omega)
    show Finset.univ.fold min top (fun p => if climb E B top n < E p then E p else B) = _
    refine fold_min_eq _ top _ (q (n + 1)) ?_ (fun p => ?_) ((hB _).trans htop)
    · rw [hn']; exact if_pos (hq n (by omega))
    · rw [hn']
      by_cases h : E (q n) < E p
      · rw [if_pos h]
        rcases hE p with ⟨k, hk, rfl⟩ | h'
        · rcases Nat.lt_or_ge n k with hk' | hk'
          · exact mono (n + 1) k hk' (by omega)
          · exact absurd h (not_lt.2 (mono k n hk' (by omega)))
        · exact (mono (n + 1) 25 (by omega) le_rfl).trans h'
      · rw [if_neg h]; exact hB _

/-- So a point is above step 24 exactly when it is none of the first 25. -/
theorem above_climb_iff (E : ι → α) (B top : α) (q : ℕ → ι) (hq : ∀ k, k < 25 → E (q k) < E (q (k + 1)))
    (hE : ∀ p, (∃ k, k < 25 ∧ p = q k) ∨ E (q 25) ≤ E p) (hB : ∀ p, E p ≤ B) (htop : B ≤ top) (p : ι) :
    climb E B top 24 < E p ↔ ∀ k, k < 25 → p ≠ q k := by
  rw [climb_eq E B top q hq hE hB htop 24 le_rfl]
  have mono : ∀ j k, j ≤ k → k ≤ 25 → E (q j) ≤ E (q k) := by
    intro j k hjk
    induction k, hjk using Nat.le_induction with
    | base => exact fun _ => le_refl _
    | succ k _ ih => exact fun h => (ih (by omega)).trans (hq k (by omega)).le
  constructor
  · rintro h k hk rfl
    exact absurd h (not_lt.2 (mono k 24 (by omega) (by omega)))
  · intro h
    rcases hE p with ⟨k, hk, rfl⟩ | h'
    · exact absurd rfl (h k hk)
    · exact (hq 24 (by omega)).trans_le h'

end Cert.Proof
-- ==== Proof.KPoint.lean ====
module

public import proofs.«01_k».proof.Proof.KPlane
public import proofs.«01_k».proof.Proof.KReg1
public import proofs.«01_k».proof.Proof.Threshold
public import Idealize.ShloMosaic.Lib.Pipeline.ValueKit
public import Idealize.ShloMosaic.PureOps.Ideal

@[expose] public section

noncomputable section

namespace Cert.Proof.Ker

open Idealize.ShloMosaic Idealize.ShloMosaic.Tactic
open Cert.KernelIdeal

variable (lab : IVec S784x128 32) (c : BitVec 32) (x y z : FVec Ideal S784x128 .f32) (p : S784x128.Idx)

/-- A select on a comparison for equality. -/
theorem select_eq {α : Type} {w : Nat} (a b : BitVec w) (u v : α) :
    Scalar.select (IntOp.cmpi .eq a b) u v = if a = b then u else v := by
  by_cases h : a = b
  · simp [h, Scalar.select, IntOp.cmpi]
  · simp [h, Scalar.select, IntOp.cmpi, beq_false_of_ne h]

/-- The mask at a place is whether the label there is the class. -/
theorem planeMask_apply : planeMask lab c p = BitVec.ofBool (decide (lab p = c)) := by
  show IntOp.cmpi .eq (lab p) c = _
  by_cases h : lab p = c
  · simp [h, IntOp.cmpi]
  · simp [h, IntOp.cmpi, beq_false_of_ne h]

/-- The sum of the plane that is `u` where the label is `c`, zero elsewhere. -/
theorem total_masked (u : FVec Ideal S784x128 .f32) : total (F := Ideal) (select (planeMask lab c) u (broadcast S784x128 (Scalar.ofBits .f32 0x00000000#32)))
      = ∑ a : Fin 784, ∑ b : Fin 128, if lab (ix2 a b) = c then u (ix2 a b) else 0 := by
  rw [total_eq]
  refine Finset.sum_congr rfl fun a _ => Finset.sum_congr rfl fun b _ => ?_
  unfold planeMask
  rw [← select_eq]
  pointwise

/-- The count, at least one. -/
theorem planeCount_eq : planeCount (F := Ideal) lab c = max (∑ a : Fin 784, ∑ b : Fin 128, if lab (ix2 a b) = c then 1 else 0) 1 := by
  have h1 : Ideal.ofBits .f32 0x3F800000#32 = 1 := by
    simp [Ideal.ofBits, Ideal.ieee, -EReal.coe_mul]; norm_num
  unfold planeCount
  rw [total_masked]
  show max (∑ a : Fin 784, ∑ b : Fin 128, if lab (ix2 a b) = c then Ideal.ofBits .f32 0x3F800000#32 else 0) (Ideal.ofBits .f32 0x3F800000#32) = _
  rw [h1]

/-- The mean of a coordinate over the places with the label. -/
theorem planeMean_eq : planeMean (F := Ideal) lab c x
    = Ideal.div (∑ a : Fin 784, ∑ b : Fin 128, if lab (ix2 a b) = c then x (ix2 a b) else 0) (planeCount (F := Ideal) lab c) := by
  unfold planeMean
  rw [total_masked]
  rfl

/-- The squared distance at a place. -/
theorem planeDist_apply : planeDist (F := Ideal) x y z lab c p =
    (x p - planeMean (F := Ideal) lab c x) * (x p - planeMean (F := Ideal) lab c x)
      + (y p - planeMean (F := Ideal) lab c y) * (y p - planeMean (F := Ideal) lab c y)
      + (z p - planeMean (F := Ideal) lab c z) * (z p - planeMean (F := Ideal) lab c z) := by
  unfold planeDist planeSquare
  pointwise

/-- The least value above a given one. -/
theorem nextAbove_eq (d : FVec Ideal S784x128 .f32) (t : EReal) : nextAbove (F := Ideal) d t
    = Finset.univ.fold min ⊤ fun p : Fin 784 × Fin 128 =>
        if t < d (ix2 p.1 p.2) then d (ix2 p.1 p.2) else Ideal.ofBits .f32 0x7F61B1E6#32 := by
  unfold nextAbove
  rw [least_eq]
  pointwise

/-- The threshold is the climb through the plane's values. -/
theorem threshold_eq (d : FVec Ideal S784x128 .f32) (n : Nat) : threshold (F := Ideal) d n
    = climb (fun p : Fin 784 × Fin 128 => d (ix2 p.1 p.2)) (Ideal.ofBits .f32 0x7F61B1E6#32) ⊤ n := by
  induction n with
  | zero => exact least_eq d
  | succ n ih =>
    show nextAbove (F := Ideal) d (threshold d n) = _
    rw [nextAbove_eq, ih]
    rfl

/-- And, on bits. -/
theorem andi_ofBool (a b : Bool) : IntOp.andi (BitVec.ofBool a) (BitVec.ofBool b) = BitVec.ofBool (a && b) := by
  cases a <;> cases b <;> rfl

/-- A place is far when it has the label and its squared distance is above the climb's last value. -/
theorem planeFar_apply : planeFar (F := Ideal) x y z lab c p =
    BitVec.ofBool (decide (lab p = c ∧ climb (fun q : Fin 784 × Fin 128 => planeDist (F := Ideal) x y z lab c (ix2 q.1 q.2))
      (Ideal.ofBits .f32 0x7F61B1E6#32) ⊤ 24 < planeDist (F := Ideal) x y z lab c p)) := by
  unfold planeFar
  rw [threshold_eq]
  generalize climb (fun q : Fin 784 × Fin 128 => planeDist (F := Ideal) x y z lab c (ix2 q.1 q.2)) (Ideal.ofBits .f32 0x7F61B1E6#32) ⊤ 24 = t
  generalize planeDist (F := Ideal) x y z lab c = d
  show IntOp.andi (planeMask lab c p) (BitVec.ofBool (decide (t < d p))) = _
  rw [planeMask_apply, andi_ofBool, Bool.decide_and]

end Cert.Proof.Ker

end
-- ==== Proof.RefPoint.lean ====
module

public import proofs.«01_k».proof.Proof.RefStep
public import Idealize.ShloMosaic.Lib.Pipeline.ValueKit
public import Idealize.ShloMosaic.Lib.StableHlo.Predicate
public import Idealize.ShloMosaic.Lib.SortNet.Extract
public import Idealize.ShloMosaic.PureOps.Ideal
public import Idealize.ShloMosaic.PureOps.Ideal.Laws

@[expose] public section

noncomputable section

namespace Cert.Proof.Ref

open Idealize.ShloMosaic Idealize.ShloMosaic.Tactic
open Cert.ReferenceIdeal Cert.ReferenceIdeal.Facts₀

/-- A row's logits, in sums. -/
theorem logits_apply (feat : FVec Ideal S100000x512 .f32) (W : FVec Ideal S512x20 .f32) (b : FVec Ideal S20 .f32) (r : Fin 100000) (j : Fin 20) :
    logits feat W b (ix2 r j) = (∑ k : Fin 512, feat (ix2 r k) * W (ix2 k j)) + b (ix1 j) := by
  unfold logits
  pointwise

variable (lab : IVec S100000 32) (coord : FVec Ideal S100000x3 .f32) (c : BitVec 32)

/-- The mask's bit. -/
theorem mask_apply (r : Fin 100000) : mask lab c (ix1 r) = BitVec.ofBool (decide (lab (ix1 r) = c)) := by
  unfold mask
  pointwise
  by_cases h : lab (ix1 r) = c
  · simp [h, IntOp.cmpi]
  · simp [h, IntOp.cmpi, beq_false_of_ne h]

/-- A coordinate, zero off the class. -/
theorem masked_apply (r : Fin 100000) (d : Fin 3) : masked lab coord c (ix2 r d) = if lab (ix1 r) = c then coord (ix2 r d) else 0 := by
  unfold masked
  pointwise
  rw [mask_apply]
  by_cases h : lab (ix1 r) = c <;> simp [h, Scalar.select]

/-- The count is the number of rows in the class. -/
theorem count_eq : count lab c ix0 = BitVec.ofNat 32 (Finset.univ.filter fun r : Fin 100000 => lab (ix1 r) = c).card := by
  unfold count
  pointwise
  have hbit : ∀ r : Fin 100000, (BitVec.setWidth 32 (mask lab c (ix1 r))).toNat = if lab (ix1 r) = c then 1 else 0 := by
    intro r
    rw [mask_apply]
    by_cases h : lab (ix1 r) = c <;> simp [h]
  have hsum : ∑ r : Fin 100000, (BitVec.setWidth 32 (mask lab c (ix1 r))).toNat = (Finset.univ.filter fun r : Fin 100000 => lab (ix1 r) = c).card := by
    rw [Finset.card_filter]
    exact Finset.sum_congr rfl fun r _ => hbit r
  have hle : (Finset.univ.filter fun r : Fin 100000 => lab (ix1 r) = c).card ≤ 100000 := by
    simpa using Finset.card_le_univ (Finset.univ.filter fun r : Fin 100000 => lab (ix1 r) = c)
  have hlt : (Finset.univ.filter fun r : Fin 100000 => lab (ix1 r) = c).card < 2 ^ 32 := lt_of_le_of_lt hle (by norm_num)
  apply BitVec.eq_of_toNat_eq
  rw [StableHlo.Predicate.toNat_fold_addi _ _ (by rw [hsum]; exact hlt), hsum, BitVec.toNat_ofNat, Nat.mod_eq_of_lt hlt]

/-- The divisor: the number of rows in the class, one at least. -/
theorem divisor_eq : FloatOps.sitofp (F := Ideal) .f32 (IntOp.maxsi (count lab c ix0) 1#32)
    = ((max ((Finset.univ.filter fun r : Fin 100000 => lab (ix1 r) = c).card : ℝ) 1 : ℝ) : EReal) := by
  have hle : (Finset.univ.filter fun r : Fin 100000 => lab (ix1 r) = c).card ≤ 100000 := by
    simpa using Finset.card_le_univ (Finset.univ.filter fun r : Fin 100000 => lab (ix1 r) = c)
  show (((IntOp.maxsi (count lab c ix0) 1#32).toInt : ℝ) : EReal) = _
  rw [SortNet.toInt_maxsi, count_eq, StableHlo.Predicate.toInt_ofNat_small _ (lt_of_le_of_lt hle (by norm_num))]
  have h1 : (1#32 : BitVec 32).toInt = 1 := by decide
  rw [h1]
  push_cast
  rfl

/-- The mean position, as a quotient. -/
theorem centroid_apply (d : Fin 3) : centroid lab coord c (ix1 d) =
    Ideal.div (∑ r : Fin 100000, if lab (ix1 r) = c then coord (ix2 r d) else 0)
      ((max ((Finset.univ.filter fun r : Fin 100000 => lab (ix1 r) = c).card : ℝ) 1 : ℝ) : EReal) := by
  rw [← divisor_eq]
  unfold centroid
  pointwise
  simp only [masked_apply]

/-- Minus the distance, as a root. -/
theorem negDist_apply (r : Fin 100000) : negDist lab coord c (ix1 r) =
    -Ideal.sqrt (∑ d : Fin 3, (coord (ix2 r d) - centroid lab coord c (ix1 d)) * (coord (ix2 r d) - centroid lab coord c (ix1 d))
      + Ideal.ofBits .f32 0x2B8CBCCC#32) := by
  unfold negDist offset
  pointwise

/-- A place that is not negative is taken as it is. -/
theorem wrapped_apply (i : IVec S25 32) (k : Fin 25) (h : 0 ≤ (i (ix1 k)).toInt) : wrapped i (ix1 k) = i (ix1 k) := by
  unfold wrapped
  pointwise
  have : IntOp.cmpi .slt (i (ix1 k)) 0#32 = 0#1 := by
    simp only [IntOp.cmpi, BitVec.slt]
    rw [decide_eq_false (by simpa using h)]
    rfl
  rw [this]
  rfl

/-- One class's pass at an element. -/
theorem step_apply (t : FVec Ideal S20 .f32) (x : FVec Ideal S100000x20 .f32) (r : Fin 100000) (j : Fin 20) :
    step lab coord c t x (ix2 r j) = if lab (ix1 r) = c ∧ nearest lab coord c (ix1 r) ≠ 1#1 then t (ix1 j) else x (ix2 r j) := by
  unfold step resets
  pointwise
  rw [mask_apply]
  generalize nearest lab coord c (ix1 r) = b
  have hb : b = 0#1 ∨ b = 1#1 := BitVec.eq_zero_or_eq_one b
  by_cases h : lab (ix1 r) = c <;> rcases hb with rfl | rfl <;> simp [h, Scalar.select, IntOp.andi]

end Cert.Proof.Ref

end
-- ==== Proof.Sums.lean ====
module

public import Idealize.ShloMosaic.PureOps.Ideal
public import Idealize.ShloMosaic.PureOps.Ideal.Laws
public import Mathlib.Algebra.BigOperators.Fin

@[expose] public section

noncomputable section

namespace Cert.Proof

open Idealize.ShloMosaic

/-- A sum of real numbers, taken among the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum over the places a condition selects. -/
theorem sum_ite_coe {ι : Type} [Fintype ι] (q : ι → Prop) [DecidablePred q] (f : ι → ℝ) :
    ∑ i, (if q i then (f i : EReal) else 0) = ((∑ i, if q i then f i else 0 : ℝ) : EReal) := by
  rw [← sum_coe]
  refine Finset.sum_congr rfl fun i _ => ?_
  split <;> simp

/-- The quotient of two reals. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The root of a real that is not negative. -/
theorem sqrt_coe (a : ℝ) (ha : 0 ≤ a) : Ideal.sqrt (a : EReal) = ((Real.sqrt a : ℝ) : EReal) :=
  if_neg (not_lt.2 ha)

/-- Where row `r` lies in a plane of 784 rows of 128. -/
def emb (r : Fin 100000) : Fin 784 × Fin 128 :=
  (⟨r.val / 128, by have := r.isLt; omega⟩, ⟨r.val % 128, Nat.mod_lt _ (by decide)⟩)

/-- Different rows have different places. -/
theorem emb_injective : Function.Injective emb := by
  intro r s h
  have h1 : r.val / 128 = s.val / 128 := congrArg (fun p => p.1.val) h
  have h2 : r.val % 128 = s.val % 128 := congrArg (fun p => p.2.val) h
  exact Fin.ext (by omega)

/-- A place before the end of the rows is the place of a row. -/
theorem emb_of_lt (a : Fin 784) (b : Fin 128) (h : a.val * 128 + b.val < 100000) : emb ⟨a.val * 128 + b.val, h⟩ = (a, b) := by
  have := b.isLt
  refine Prod.ext (Fin.ext ?_) (Fin.ext ?_)
  · show (a.val * 128 + b.val) / 128 = a.val
    omega
  · show (a.val * 128 + b.val) % 128 = b.val
    omega

/-- A plane whose places past the rows hold zero sums to what the rows sum to. -/
theorem sum_plane (f : Fin 784 → Fin 128 → EReal) (g : Fin 100000 → EReal) (hf : ∀ r, f (emb r).1 (emb r).2 = g r)
    (h0 : ∀ a b, ¬ (a : Fin 784).val * 128 + (b : Fin 128).val < 100000 → f a b = 0) :
    ∑ a, ∑ b, f a b = ∑ r, g r := by
  rw [← Fintype.sum_prod_type' f]
  refine (Finset.sum_of_injOn emb emb_injective.injOn (fun _ _ => Finset.mem_univ _) (fun p _ hp => ?_) (fun r _ => (hf r).symm)).symm
  refine h0 p.1 p.2 fun h => hp ⟨⟨_, h⟩, Finset.mem_coe.2 (Finset.mem_univ _), emb_of_lt p.1 p.2 h⟩

/-! ## Numbers -/

/-- The word of 1. -/
theorem word_one : Ideal.ofBits .f32 0x3F800000#32 = ((1 : ℝ) : EReal) := by
  simp [Ideal.ofBits, Ideal.ieee, -EReal.coe_mul]; norm_num

/-- The word of 1.0e6. -/
theorem word_million : Ideal.ofBits .f32 0x49742400#32 = ((1000000 : ℝ) : EReal) := by
  simp [Ideal.ofBits, Ideal.ieee, -EReal.coe_mul]; norm_num

/-- The word of 3.0e5. -/
theorem word_bound : Ideal.ofBits .f32 0x48927C00#32 = ((300000 : ℝ) : EReal) := by
  simp [Ideal.ofBits, Ideal.ieee, -EReal.coe_mul]; norm_num

/-- The small number under the root is not negative. -/
theorem word_small : ∃ e : ℝ, 0 ≤ e ∧ Ideal.ofBits .f32 0x2B8CBCCC#32 = (e : EReal) := by
  refine ⟨9223372 / 2 ^ 63, by positivity, ?_⟩
  simp [Ideal.ofBits, Ideal.ieee, -EReal.coe_mul]
  norm_num

/-- The large number of the kernel is above any squared distance. -/
theorem word_big : ((1e13 : ℝ) : EReal) ≤ Ideal.ofBits .f32 0x7F61B1E6#32 := by
  simp [Ideal.ofBits, Ideal.ieee, -EReal.coe_mul]; norm_num

end Cert.Proof

end
-- ==== Proof.RefReal.lean ====
module

public import proofs.«01_k».proof.Proof.RefPoint
public import proofs.«01_k».proof.Proof.Sums

@[expose] public section

noncomputable section

namespace Cert.Proof

open Idealize.ShloMosaic

/-- How many rows bear the label `c`. -/
def members (lab : Fin 100000 → BitVec 32) (c : BitVec 32) : ℕ := (Finset.univ.filter fun r => lab r = c).card

/-- The mean of a coordinate over the rows labelled `c` (zero where there is none). -/
def mean (lab : Fin 100000 → BitVec 32) (X : Fin 100000 → Fin 3 → ℝ) (c : BitVec 32) (d : Fin 3) : ℝ :=
  (∑ r, if lab r = c then X r d else 0) / max (members lab c : ℝ) 1

/-- The squared distance of a point from the mean position. -/
def sq (lab : Fin 100000 → BitVec 32) (X : Fin 100000 → Fin 3 → ℝ) (c : BitVec 32) (p : Fin 3 → ℝ) : ℝ :=
  ∑ d, (p d - mean lab X c d) * (p d - mean lab X c d)

/-- A squared distance is not negative. -/
theorem sq_nonneg' (lab : Fin 100000 → BitVec 32) (X : Fin 100000 → Fin 3 → ℝ) (c : BitVec 32) (p : Fin 3 → ℝ) : 0 ≤ sq lab X c p :=
  Finset.sum_nonneg fun _ _ => mul_self_nonneg _

/-- The divisor is positive. -/
theorem divisor_pos (lab : Fin 100000 → BitVec 32) (c : BitVec 32) : (0 : ℝ) < max (members lab c : ℝ) 1 :=
  lt_of_lt_of_le one_pos (le_max_right _ _)

variable (lab : IVec Cert.ReferenceIdeal.S100000 32) (coord : FVec Ideal Cert.ReferenceIdeal.S100000x3 .f32) (c : BitVec 32)
  (X : Fin 100000 → Fin 3 → ℝ) (hX : ∀ r d, coord (ix2 r d) = (X r d : EReal))

include hX in
/-- The reference's mean position. -/
theorem centroid_real (d : Fin 3) : Ref.centroid lab coord c (ix1 d) = (mean (fun r => lab (ix1 r)) X c d : EReal) := by
  rw [Ref.centroid_apply]
  simp only [hX]
  rw [sum_ite_coe]
  exact div_coe _ _ (divisor_pos (fun r => lab (ix1 r)) c).ne'

include hX in
/-- The reference's distances, negated, are ordered against the squared distances. -/
theorem negDist_real : ∃ e : ℝ, 0 ≤ e ∧ ∀ r : Fin 100000, Ref.negDist lab coord c (ix1 r)
    = ((-Real.sqrt (sq (fun r => lab (ix1 r)) X c (X r) + e) : ℝ) : EReal) := by
  obtain ⟨e, he, hw⟩ := word_small
  refine ⟨e, he, fun r => ?_⟩
  rw [Ref.negDist_apply, hw]
  simp only [hX, centroid_real lab coord c X hX]
  simp only [← EReal.coe_sub, ← EReal.coe_mul]
  rw [sum_coe, ← EReal.coe_add]
  change -Ideal.sqrt ((sq (fun r => lab (ix1 r)) X c (X r) + e : ℝ) : EReal) = _
  rw [sqrt_coe _ (add_nonneg (sq_nonneg' (fun r => lab (ix1 r)) X c (X r)) he), ← EReal.coe_neg]

include hX in
/-- A row is strictly nearer exactly when its negated distance is greater. -/
theorem negDist_lt (r s : Fin 100000) : Ref.negDist lab coord c (ix1 r) < Ref.negDist lab coord c (ix1 s)
    ↔ sq (fun r => lab (ix1 r)) X c (X s) < sq (fun r => lab (ix1 r)) X c (X r) := by
  obtain ⟨e, he, h⟩ := negDist_real lab coord c X hX
  rw [h, h, EReal.coe_lt_coe_iff, neg_lt_neg_iff,
    Real.sqrt_lt_sqrt_iff (add_nonneg (sq_nonneg' (fun r => lab (ix1 r)) X c (X s)) he), add_lt_add_iff_right]

include hX in
/-- The same, with equality allowed. -/
theorem negDist_le (r s : Fin 100000) : Ref.negDist lab coord c (ix1 r) ≤ Ref.negDist lab coord c (ix1 s)
    ↔ sq (fun r => lab (ix1 r)) X c (X s) ≤ sq (fun r => lab (ix1 r)) X c (X r) := by
  rw [← not_lt, ← not_lt, negDist_lt lab coord c X hX]

end Cert.Proof

end
-- ==== Proof.KReal.lean ====
module

public import proofs.«01_k».proof.Proof.KPoint
public import proofs.«01_k».proof.Proof.KHost
public import proofs.«01_k».proof.Proof.RefReal

@[expose] public section

noncomputable section

namespace Cert.Proof

open Idealize.ShloMosaic
open Cert.KernelIdeal (S784x128 S100000x3)

variable (lab : Fin 100000 → BitVec 32) (coord : FVec Ideal S100000x3 .f32) (c : BitVec 32) (hc : c ≠ 4294967295#32)
  (X : Fin 100000 → Fin 3 → ℝ) (hX : ∀ r d, coord (ix2 r d) = (X r d : EReal))

/-- The label plane at a row's place. -/
theorem labelPlane_emb (r : Fin 100000) : Ker.labelPlane lab (ix2 (emb r).1 (emb r).2) = lab r := by
  have h : (emb r).1.val * 128 + (emb r).2.val = r.val := by
    show r.val / 128 * 128 + r.val % 128 = r.val
    omega
  refine (dif_pos (by rw [show ((ix2 (emb r).1 (emb r).2 : S784x128.Idx) 0).val * 128 + ((ix2 (emb r).1 (emb r).2 : S784x128.Idx) 1).val = r.val from h]; exact r.isLt)).trans ?_
  exact congrArg lab (Fin.ext h)

/-- Past the rows the label is -1. -/
theorem labelPlane_pad (a : Fin 784) (b : Fin 128) (h : ¬ a.val * 128 + b.val < 100000) : Ker.labelPlane lab (ix2 a b) = 4294967295#32 :=
  dif_neg h

/-- A coordinate plane at a row's place. -/
theorem coordPlane_emb (d : Fin 3) (r : Fin 100000) : Ker.coordPlane coord d (ix2 (emb r).1 (emb r).2) = coord (ix2 r d) := by
  have h : (emb r).1.val * 128 + (emb r).2.val = r.val := by
    show r.val / 128 * 128 + r.val % 128 = r.val
    omega
  refine (dif_pos (by rw [show ((ix2 (emb r).1 (emb r).2 : S784x128.Idx) 0).val * 128 + ((ix2 (emb r).1 (emb r).2 : S784x128.Idx) 1).val = r.val from h]; exact r.isLt)).trans ?_
  exact congrArg (fun q => coord (ix2 q d)) (Fin.ext h)

/-- Past the rows a coordinate is 1.0e6. -/
theorem coordPlane_pad (d : Fin 3) (a : Fin 784) (b : Fin 128) (h : ¬ a.val * 128 + b.val < 100000) :
    Ker.coordPlane coord d (ix2 a b) = ((1000000 : ℝ) : EReal) :=
  (dif_neg h).trans word_million

include hc in
/-- The kernel's divisor is the reference's. -/
theorem planeCount_real : Ker.planeCount (F := Ideal) (Ker.labelPlane lab) c = ((max (members lab c : ℝ) 1 : ℝ) : EReal) := by
  rw [Ker.planeCount_eq, sum_plane (g := fun r => if lab r = c then (((1 : ℝ)) : EReal) else 0)
    (f := fun a b => if Ker.labelPlane lab (ix2 a b) = c then 1 else 0)]
  · rw [sum_ite_coe]
    have h : (∑ r, if lab r = c then (1 : ℝ) else 0) = (members lab c : ℝ) := by
      unfold members
      rw [Finset.card_filter]
      push_cast
      rfl
    rw [h]
    exact (EReal.coe_strictMono.monotone.map_max).symm
  · intro r
    simp only [labelPlane_emb]
    rfl
  · intro a b h
    simp only [labelPlane_pad lab a b h]
    exact if_neg hc.symm

include hc hX in
/-- The kernel's mean position is the reference's. -/
theorem planeMean_real (d : Fin 3) : Ker.planeMean (F := Ideal) (Ker.labelPlane lab) c (Ker.coordPlane coord d) = (mean lab X c d : EReal) := by
  rw [Ker.planeMean_eq, planeCount_real lab c hc, sum_plane (g := fun r => if lab r = c then ((X r d : ℝ) : EReal) else 0)
    (f := fun a b => if Ker.labelPlane lab (ix2 a b) = c then Ker.coordPlane coord d (ix2 a b) else 0)]
  · rw [sum_ite_coe]
    exact div_coe _ _ (divisor_pos lab c).ne'
  · intro r
    simp only [labelPlane_emb, coordPlane_emb, hX]
  · intro a b h
    simp only [labelPlane_pad lab a b h]
    exact if_neg hc.symm

/-- The kernel's squared distances. -/
def planeSq (q : Fin 784 × Fin 128) : EReal :=
  Ker.planeDist (F := Ideal) (Ker.coordPlane coord 0) (Ker.coordPlane coord 1) (Ker.coordPlane coord 2) (Ker.labelPlane lab) c (ix2 q.1 q.2)

include hc hX in
/-- The squared distance at a place with real coordinates. -/
theorem planeSq_of (q : Fin 784 × Fin 128) (p : Fin 3 → ℝ) (hp : ∀ d, Ker.coordPlane coord d (ix2 q.1 q.2) = (p d : EReal)) :
    planeSq lab coord c q = (sq lab X c p : EReal) := by
  unfold planeSq
  rw [Ker.planeDist_apply]
  simp only [hp, planeMean_real lab coord c hc X hX]
  unfold sq
  rw [Fin.sum_univ_three]
  push_cast
  rfl

include hc hX in
/-- At a row: the row's squared distance. -/
theorem planeSq_emb (r : Fin 100000) : planeSq lab coord c (emb r) = (sq lab X c (X r) : EReal) :=
  planeSq_of lab coord c hc X hX (emb r) (X r) fun d => (coordPlane_emb coord d r).trans (hX r d)

include hc hX in
/-- Past the rows: the squared distance of the point with every coordinate 1.0e6. -/
theorem planeSq_pad (q : Fin 784 × Fin 128) (h : ¬ q.1.val * 128 + q.2.val < 100000) :
    planeSq lab coord c q = (sq lab X c (fun _ => 1000000) : EReal) :=
  planeSq_of lab coord c hc X hX q _ fun d => coordPlane_pad coord d q.1 q.2 h

/-! ## Bounds -/

variable (hM : ∀ r d, |X r d| ≤ 300000)

include hM in
/-- The mean position lies within the bound of the coordinates. -/
theorem mean_bound (d : Fin 3) : |mean lab X c d| ≤ 300000 := by
  unfold mean
  rw [abs_div, abs_of_pos (divisor_pos lab c), div_le_iff₀ (divisor_pos lab c)]
  have h1 : |∑ r, if lab r = c then X r d else 0| ≤ (members lab c : ℝ) * 300000 := by
    refine (Finset.abs_sum_le_sum_abs _ _).trans ?_
    unfold members
    rw [Finset.card_filter]
    push_cast
    rw [Finset.sum_mul]
    refine Finset.sum_le_sum fun r _ => ?_
    by_cases h : lab r = c
    · rw [if_pos h, if_pos h, one_mul]; exact hM r d
    · rw [if_neg h, if_neg h]; simp
  have := le_max_left (members lab c : ℝ) 1
  nlinarith

/-- Squares are in the order of sizes. -/
theorem mul_self_le_of_abs {a b : ℝ} (h : |a| ≤ b) : a * a ≤ b * b := by
  have := abs_mul_abs_self a
  have := abs_nonneg a
  nlinarith

include hM in
/-- A row is nearer than a place past the rows. -/
theorem sq_row_le_pad (r : Fin 100000) : sq lab X c (X r) ≤ sq lab X c (fun _ => 1000000) := by
  refine Finset.sum_le_sum fun d _ => ?_
  have h1 := abs_le.1 (hM r d)
  have h2 := abs_le.1 (mean_bound lab c X hM d)
  have h3 : |X r d - mean lab X c d| ≤ 1000000 - mean lab X c d := abs_le.2 ⟨by linarith, by linarith⟩
  exact mul_self_le_of_abs h3

include hM in
/-- No squared distance reaches 1.0e13. -/
theorem sq_pad_le : sq lab X c (fun _ => 1000000) ≤ 1e13 := by
  have h : ∀ d : Fin 3, (1000000 - mean lab X c d) * (1000000 - mean lab X c d) ≤ 1300000 * 1300000 := by
    intro d
    have h2 := abs_le.1 (mean_bound lab c X hM d)
    exact mul_self_le_of_abs (abs_le.2 ⟨by linarith, by linarith⟩)
  unfold sq
  rw [Fin.sum_univ_three]
  have := h 0
  have := h 1
  have := h 2
  norm_num at *
  linarith

end Cert.Proof

end
-- ==== Proof.SortSpec.lean ====
module

public import Idealize.ShloMosaic.Lib.SortFacts
public import Idealize.ShloMosaic.Lib.ValueIdxCore
public import Idealize.ShloMosaic.PureOps.Ideal
public import Idealize.ShloMosaic.PureOps.Ideal.Laws

@[expose] public section

noncomputable section

namespace Cert.Proof

open Idealize.ShloMosaic Idealize.ShloMosaic.ValueIdx

/-- The order in which the stable sort of `x`, greatest first, takes the positions. -/
def order {n : Nat} (x : (⟨1, ![n]⟩ : Shape).Idx → EReal) : Fin n → Fin n :=
  sortedFrom fun k k' => decide (x (ix1 k') < x (ix1 k))

/-- No entry occurs in it twice. -/
theorem order_injective {n : Nat} (x : (⟨1, ![n]⟩ : Shape).Idx → EReal) : Function.Injective (order x) := sortedFrom_injective _

/-- Every entry occurs in it. -/
theorem order_surjective {n : Nat} (x : (⟨1, ![n]⟩ : Shape).Idx → EReal) : Function.Surjective (order x) := sortedFrom_surjective _

/-- Along it the values do not increase. -/
theorem order_antitone {n : Nat} (x : (⟨1, ![n]⟩ : Shape).Idx → EReal) (i j : Fin n) (h : i ≤ j) :
    x (ix1 (order x j)) ≤ x (ix1 (order x i)) := by
  rcases eq_or_lt_of_le h with rfl | h
  · exact le_refl _
  have := sortedFrom_noInversion (fun k k' => decide (x (ix1 k') < x (ix1 k))) (fun k k' => decide (x (ix1 k') < x (ix1 k)))
    (fun a b h => decide_eq_false (not_lt.2 (of_decide_eq_true h).le)) (fun _ _ h => h)
    (fun a b c h1 h2 => decide_eq_false (not_lt.2 ((not_lt.1 (of_decide_eq_false h1)).trans (not_lt.1 (of_decide_eq_false h2))))) i j h
  exact not_lt.1 (of_decide_eq_false this)

/-- The top-k of a vector: the values and the positions, in that order. -/
theorem topK_read {n k : Nat} (x : FVec Ideal ⟨1, ![n]⟩ .f32) (h : (⟨1, ![n]⟩ : Shape).Slices (fun _ => 0) ⟨1, ![k]⟩) (i : Fin k) (hi : i.val < n) :
    (Host.topK ⟨1, ![k]⟩ 0 (FloatOps.cmpfTotal (F := Ideal) (φ := .f32) .gt) x h).1 (ix1 i) = x (ix1 (order x ⟨i, hi⟩))
    ∧ (Host.topK ⟨1, ![k]⟩ 0 (FloatOps.cmpfTotal (F := Ideal) (φ := .f32) .gt) x h).2 (ix1 i) = BitVec.ofNat 32 (order x ⟨i, hi⟩).val := by
  have hb : (fun a b : Fin n => (FloatOps.cmpfTotal (F := Ideal) (φ := .f32) .gt (x (ix1 a)) (x (ix1 b)) == 1#1))
      = fun a b => decide (x (ix1 b) < x (ix1 a)) := by
    funext a b
    rw [Ideal.cmpfTotal_def]
    by_cases hx : x (ix1 b) < x (ix1 a) <;> simp [Ideal.cmp, CmpDirection.ordered, hx]
  have along : ∀ (j : (⟨1, ![n]⟩ : Shape).Idx) (a : Fin n), j.along (0 : Fin 1) a = ix1 a := by
    intro j a
    funext c
    match c with
    | ⟨0, _⟩ => rfl
  have same : ∀ j : (⟨1, ![n]⟩ : Shape).Idx, (fun k k' : Fin n =>
      FloatOps.cmpfTotal (F := Ideal) (φ := .f32) .gt (x (j.along (0 : Fin 1) k)) (x (j.along (0 : Fin 1) k')) == 1#1)
      = fun a b => decide (x (ix1 b) < x (ix1 a)) := fun j => by
    funext a b
    exact (congrArg₂ (fun u v => FloatOps.cmpfTotal (F := Ideal) (φ := .f32) .gt (x u) (x v) == 1#1) (along j a) (along j b)).trans
      (congrFun (congrFun hb a) b)
  have place : ∀ j : (⟨1, ![n]⟩ : Shape).Idx, (j 0).val = i.val →
      j.along (0 : Fin 1) (sortedFrom (fun k k' : Fin n =>
        FloatOps.cmpfTotal (F := Ideal) (φ := .f32) .gt (x (j.along (0 : Fin 1) k)) (x (j.along (0 : Fin 1) k')) == 1#1) (j 0))
      = ix1 (order x ⟨i.val, hi⟩) := fun j hj => by
    refine (along j _).trans (congrArg ix1 ?_)
    rw [same j]
    exact congrArg (sortedFrom fun a b => decide (x (ix1 b) < x (ix1 a))) (Fin.ext hj)
  constructor
  · exact congrArg x (place (fun a => ⟨0 + (ix1 i (Fin.cast h.1.symm a)).val, Nat.lt_of_lt_of_le (Nat.add_lt_add_left (ix1 i _).isLt _) (h.2 a)⟩) (Nat.zero_add _))
  · exact congrArg (fun p : (⟨1, ![n]⟩ : Shape).Idx => BitVec.ofNat 32 (p 0).val)
      (place (fun a => ⟨0 + (ix1 i (Fin.cast h.1.symm a)).val, Nat.lt_of_lt_of_le (Nat.add_lt_add_left (ix1 i _).isLt _) (h.2 a)⟩) (Nat.zero_add _))

end Cert.Proof

end
-- ==== Proof.Nearest.lean ====
module

public import proofs.«01_k».proof.Proof.RefPoint
public import proofs.«01_k».proof.Proof.SortSpec
public import Idealize.ShloMosaic.Lib.Routing.OpsOne

@[expose] public section

noncomputable section

namespace Cert.Proof

open Idealize.ShloMosaic Idealize.ShloMosaic.Tactic Idealize.ShloMosaic.Routing

/-- Update `k` of a scatter of `M` scalars into a vector of `N` lands at entry `x` exactly when its index word, read signed, is `x`. -/
theorem lands_vector {N M : Nat} (d : ScatterDims ⟨1, ![N]⟩ ⟨2, ![M, 1]⟩ ⟨1, ![M]⟩) (hiw : d.insertedWindowDims = [0])
    (hsd : d.scatterDimsToOperandDims = [0]) (hivd : d.indexVectorDim = 1) (idx : IVec ⟨2, ![M, 1]⟩ 32) (k : Fin M) (x : Fin N) :
    d.resultIdx? (ix1 k) idx = some (ix1 x) ↔ (idx (ix2 k (0 : Fin 1))).toInt = (x.val : Int) := by
  have hm : (0 : Fin 1) ∈ d.scatterDimsToOperandDims := by rw [hsd]; exact List.mem_singleton.2 rfl
  have hwin : d.window (ix1 k) 0 = 0 := by
    unfold ScatterDims.window
    rw [dif_neg fun h => (of_decide_eq_true (List.mem_filter.1 h).2) (by rw [hiw]; exact List.mem_singleton.2 rfl)]
  have hstart : d.start (ix1 k) idx 0 = (idx (ix2 k (0 : Fin 1))).toInt := by
    unfold ScatterDims.start
    rw [dif_pos hm]
    refine congrArg (fun i => (idx i).toInt) ?_
    funext b
    apply Fin.ext
    fin_cases b
    · unfold ScatterDims.siIdx
      rw [dif_neg (by rw [hivd]; exact Nat.zero_ne_one)]
      unfold ScatterDims.siCoord
      simp only [Fin.val_cast]
      have e : ∀ y : Fin 1, (ix1 k y).val = k.val := fun y => by
        obtain rfl : y = 0 := Subsingleton.elim _ _
        rfl
      exact e _
    · exact congrArg Fin.val (Subsingleton.elim (α := Fin 1) _ _)
  refine (resultIdx?_ix1 d (ix1 k) idx x).trans ?_
  rw [hstart, hwin]
  simp

open Cert.ReferenceIdeal in
/-- A row is marked exactly when it is one of the first 25 in the order of the distances. -/
theorem nearest_iff (lab : IVec S100000 32) (coord : FVec Ideal S100000x3 .f32) (c : BitVec 32) (r : Fin 100000) :
    Ref.nearest lab coord c (ix1 r) = 1#1 ↔ ∃ k : Fin 25, r = order (Ref.negDist lab coord c) (k.castLE (by decide)) := by
  have hidx : ∀ k : Fin 25, (broadcastInDim S25x1 ![0] Facts₀.bcast_S25_S25x1_0
      (Ref.wrapped (Ref.topIdx (Ref.negDist lab coord c))) (ix2 k (0 : Fin 1))).toInt
        = ((order (Ref.negDist lab coord c) (k.castLE (by decide))).val : Int) := by
    intro k
    have ht : Ref.topIdx (Ref.negDist lab coord c) (ix1 k)
        = BitVec.ofNat 32 (order (Ref.negDist lab coord c) (k.castLE (by decide))).val :=
      (topK_read (Ref.negDist lab coord c) Facts₀.sliceFits_S100000_S25 k (Nat.lt_trans k.isLt (by decide))).2
    have hi : (Ref.topIdx (Ref.negDist lab coord c) (ix1 k)).toInt
        = ((order (Ref.negDist lab coord c) (k.castLE (by decide))).val : Int) := by
      rw [ht, StableHlo.Predicate.toInt_ofNat_small _ (Nat.lt_trans (Fin.isLt _) (by norm_num))]
    have hb : broadcastInDim S25x1 ![0] Facts₀.bcast_S25_S25x1_0 (Ref.wrapped (Ref.topIdx (Ref.negDist lab coord c))) (ix2 k (0 : Fin 1))
        = Ref.wrapped (Ref.topIdx (Ref.negDist lab coord c)) (ix1 k) := by
      generalize Ref.wrapped (Ref.topIdx (Ref.negDist lab coord c)) = w
      pointwise
    rw [hb, Ref.wrapped_apply _ _ (by rw [hi]; exact Int.natCast_nonneg _), hi]
  have hl := fun k : Fin 25 => lands_vector (N := 100000) (M := 25) scatter_S100000_S25x1_S25_n_0_0_1 rfl rfl rfl
    (broadcastInDim S25x1 ![0] Facts₀.bcast_S25_S25x1_0 (Ref.wrapped (Ref.topIdx (Ref.negDist lab coord c)))) k r
  unfold Ref.nearest
  constructor
  · intro h
    by_contra hno
    have hm := scatter_set_miss scatter_S100000_S25x1_S25_n_0_0_1
      (broadcastInDim S100000 ![] Facts₀.bcast_S_S100000 (constantI S_ 1 0#1))
      (broadcastInDim S25x1 ![0] Facts₀.bcast_S25_S25x1_0 (Ref.wrapped (Ref.topIdx (Ref.negDist lab coord c))))
      (broadcastInDim S25 ![] Facts₀.bcast_S_S25 (constantI S_ 1 1#1)) (ix1 r) (fun k hk => by
        obtain ⟨q, rfl⟩ : ∃ q : Fin 25, k = ix1 q := ⟨k 0, by
          funext a
          fin_cases a
          rfl⟩
        have e := (hl q).1 hk
        rw [hidx] at e
        exact hno ⟨q, Fin.ext (by exact_mod_cast e.symm)⟩)
    rw [hm] at h
    exact absurd h (by pointwise; decide)
  · rintro ⟨k, hk⟩
    refine scatter_set_hit scatter_S100000_S25x1_S25_n_0_0_1 _ _ _ _ _ (fun _ _ => rfl) (ix1 k) ((hl k).2 ?_)
    rw [hidx, hk]

open Cert.ReferenceIdeal in
/-- The target row: 10 in column 1, zero elsewhere. -/
theorem target_apply (j : Fin 20) : Ref.target (ix1 j) = if j.val = 1 then Ideal.ofBits .f32 0x41200000#32 else (0 : EReal) := by
  have hi : (broadcastInDim S1 ![] Facts₀.bcast_S_S1 (constantI S_ 32 1#32) (ix1 (0 : Fin 1))).toInt = ((1 : Fin 20).val : Int) := by
    pointwise
    decide
  have hl := lands_one (N := 20) scatter_S20_S1_S__n_0_0_0 rfl rfl (broadcastInDim S1 ![] Facts₀.bcast_S_S1 (constantI S_ 32 1#32)) (1 : Fin 20) hi j
  unfold Ref.target
  by_cases h : j.val = 1
  · rw [if_pos h]
    exact scatter_set_hit scatter_S20_S1_S__n_0_0_0 _ _ _ _ _ (fun _ _ => rfl) ix0 (hl.2 (Fin.ext h))
  · rw [if_neg h]
    refine (scatter_set_miss scatter_S20_S1_S__n_0_0_0 _ _ _ (ix1 j) (fun k hk => h ?_)).trans ?_
    · have hk' : k = ix0 := by
        funext a
        exact a.elim0
      rw [hk'] at hk
      exact congrArg Fin.val (hl.1 hk)
    · pointwise

end Cert.Proof

end
-- ==== Proof.Core.lean ====
module

public import proofs.«01_k».proof.Proof.KReal
public import proofs.«01_k».proof.Proof.Nearest
public import proofs.«01_k».proof.Proof.Threshold

@[expose] public section

noncomputable section

namespace Cert.Proof

open Idealize.ShloMosaic
open Cert.ReferenceIdeal (S100000 S100000x3)

variable (lab : IVec S100000 32) (coord : FVec Ideal S100000x3 .f32) (c : BitVec 32) (hc : c ≠ 4294967295#32)
  (X : Fin 100000 → Fin 3 → ℝ) (hX : ∀ r d, coord (ix2 r d) = (X r d : EReal)) (hM : ∀ r d, |X r d| ≤ 300000)

/-- The first 26 rows in the order of the distances have distinct distances. -/
def Distinct : Prop := ∀ (k : ℕ) (hk : k < 25),
  Ref.negDist lab coord c (ix1 (order (Ref.negDist lab coord c) ⟨k + 1, by omega⟩))
    < Ref.negDist lab coord c (ix1 (order (Ref.negDist lab coord c) ⟨k, by omega⟩))

include hc hX hM in
/-- Where the 26 least distances are distinct, a row lies above the climb's last value exactly when it is not one of the first 25. -/
theorem climb_iff (hs : Distinct lab coord c) (r : Fin 100000) :
    climb (planeSq (fun r => lab (ix1 r)) coord c) (Ideal.ofBits .f32 0x7F61B1E6#32) ⊤ 24 < planeSq (fun r => lab (ix1 r)) coord c (emb r)
      ↔ ∀ k : Fin 25, r ≠ order (Ref.negDist lab coord c) (k.castLE (by decide)) := by
  have hemb := planeSq_emb (fun r => lab (ix1 r)) coord c hc X hX
  have hpad := planeSq_pad (fun r => lab (ix1 r)) coord c hc X hX
  have hmod : ∀ k : ℕ, k % 100000 < 100000 := fun k => Nat.mod_lt _ (by decide)
  have key := above_climb_iff (planeSq (fun r => lab (ix1 r)) coord c) (Ideal.ofBits .f32 0x7F61B1E6#32) ⊤
    (fun k => emb (order (Ref.negDist lab coord c) ⟨k % 100000, hmod k⟩))
    (fun k hk => ?_) (fun p => ?_) (fun p => ?_) le_top (emb r)
  · rw [key]
    constructor
    · intro h k e
      refine h k.val k.isLt (congrArg emb (e.trans (congrArg _ (Fin.ext ?_))))
      show k.val = k.val % 100000
      have := k.isLt
      omega
    · intro h k hk e
      refine h ⟨k, hk⟩ ((emb_injective e).trans (congrArg _ (Fin.ext ?_)))
      show k % 100000 = k
      omega
  · rw [hemb, hemb, EReal.coe_lt_coe_iff, ← negDist_lt lab coord c X hX]
    have e1 : (⟨k % 100000, hmod k⟩ : Fin 100000) = ⟨k, by omega⟩ := Fin.ext (by show k % 100000 = k; omega)
    have e2 : (⟨(k + 1) % 100000, hmod (k + 1)⟩ : Fin 100000) = ⟨k + 1, by omega⟩ := Fin.ext (by show (k + 1) % 100000 = k + 1; omega)
    rw [e1, e2]
    exact hs k hk
  · by_cases hp : p.1.val * 128 + p.2.val < 100000
    · obtain ⟨i, hi⟩ := order_surjective (Ref.negDist lab coord c) ⟨_, hp⟩
      have hpe : p = emb (order (Ref.negDist lab coord c) i) := by rw [hi]; exact (emb_of_lt p.1 p.2 hp).symm
      by_cases h25 : i.val < 25
      · refine .inl ⟨i.val, h25, hpe.trans (congrArg (fun j => emb (order (Ref.negDist lab coord c) j)) (Fin.ext ?_))⟩
        show i.val = i.val % 100000
        omega
      · refine .inr ?_
        rw [hpe, hemb, hemb, EReal.coe_le_coe_iff, ← negDist_le lab coord c X hX]
        refine order_antitone _ _ _ ?_
        show 25 % 100000 ≤ i.val
        omega
    · refine .inr ?_
      rw [hemb, hpad p hp, EReal.coe_le_coe_iff]
      exact sq_row_le_pad _ c X hM _
  · refine le_trans ?_ word_big
    by_cases hp : p.1.val * 128 + p.2.val < 100000
    · rw [show p = emb ⟨_, hp⟩ from (emb_of_lt p.1 p.2 hp).symm, hemb, EReal.coe_le_coe_iff]
      exact (sq_row_le_pad _ c X hM _).trans (sq_pad_le _ c X hM)
    · rw [hpad p hp, EReal.coe_le_coe_iff]
      exact sq_pad_le _ c X hM

include hc hX hM in
/-- A row is set back by the kernel's test exactly when it is by the reference's. -/
theorem far_iff (hs : members (fun r => lab (ix1 r)) c = 0 ∨ Distinct lab coord c) (r : Fin 100000) :
    (lab (ix1 r) = c ∧ climb (planeSq (fun r => lab (ix1 r)) coord c) (Ideal.ofBits .f32 0x7F61B1E6#32) ⊤ 24
        < planeSq (fun r => lab (ix1 r)) coord c (emb r))
      ↔ (lab (ix1 r) = c ∧ Ref.nearest lab coord c (ix1 r) ≠ 1#1) := by
  refine and_congr_right fun hr => ?_
  rcases hs with h0 | hs
  · refine absurd hr ?_
    have := Finset.filter_eq_empty_iff.1 (Finset.card_eq_zero.1 h0) (Finset.mem_univ r)
    exact this
  · rw [climb_iff lab coord c hc X hX hM hs r, Ne, nearest_iff, not_exists]

end Cert.Proof

end
-- ==== Proof.PreRead.lean ====
module

public import proofs.«01_k».proof.Proof.PreFacts
public import proofs.«01_k».proof.Proof.Core
public import proofs.«01_k».proof.Proof.FirstMax
public import proofs.«01_k».proof.Proof.RefPoint
public import proofs.«01_k».proof.Proof.RefReal
public import proofs.«01_k».proof.Proof.SortSpec
public import Idealize.ShloMosaic.Lib.ReduceAll

@[expose] public section

noncomputable section

namespace Cert.Proof.Pre

open Idealize.ShloMosaic Idealize.ShloMosaic.Tactic
open Cert.Pre_no_ties Cert.Pre_no_ties.Facts

/-- A class is well placed: it has no row, or its 26 nearest distances are distinct. -/
def ok (lab : IVec S100000 32) (coord : FVec Ideal S100000x3 .f32) (c : BitVec 32) : IVec S_ 1 :=
  ori (cmpi .eq (Ref.count lab c) (constantI S_ 32 0#32))
    (Host.reduce IntOp.andi (cmpf (F := Ideal) .ogt
        (extractStridedSlice S25 ![0] (Host.topK S26 0 (FloatOps.cmpfTotal (F := Ideal) .gt) (Ref.negDist lab coord c) sliceFits_S100000_S26).1 slices_S26_S25_0)
        (extractStridedSlice S25 ![1] (Host.topK S26 0 (FloatOps.cmpfTotal (F := Ideal) .gt) (Ref.negDist lab coord c) sliceFits_S100000_S26).1 slices_S26_S25_1))
      (constantI S_ 1 1#1) reducesTo_S25_S_d0 h_S_)

/-- The labels, as the precondition's function forms them. -/
def labels (x : FVec Ideal S100000x20 .f32) : IVec S100000 32 := fn_argmax (F := Ideal) x

/-- They are the reference's. -/
theorem labels_eq (x : FVec Ideal S100000x20 .f32) : labels x = Ref.labels x := rfl

/-- Every row's greatest logit is at least -1.0e30. -/
def okLogits (x : FVec Ideal S100000x20 .f32) : IVec S_ 1 :=
  Host.reduce IntOp.andi (cmpf (F := Ideal) .oge
      (Host.reduce FloatOps.maximumf x (constant (F := Ideal) S_ .f32 0xFF800000#32) reducesTo_S100000x20_S100000_d1 h_S_)
      (broadcastInDim S100000 ![] bcast_S_S100000 (constant (F := Ideal) S_ .f32 0xF149F2CA#32)))
    (constantI S_ 1 1#1) reducesTo_S100000_S_d0 h_S_

/-- Every coordinate is at most 3.0e5 in size. -/
def okCoord (coord : FVec Ideal S100000x3 .f32) : IVec S_ 1 :=
  Host.reduce IntOp.andi (cmpf (F := Ideal) .ole (Host.absf coord)
      (broadcastInDim S100000x3 ![] bcast_S_S100000x3 (constant (F := Ideal) S_ .f32 0x48927C00#32)))
    (constantI S_ 1 1#1) reducesTo_S100000x3_S_d0_1 h_S_

/-- The chain from the first class on. -/
theorem tail_eq (coord : FVec Ideal S100000x3 .f32) (lab : IVec S100000 32) (A : IVec S_ 1) :
    fn_part1 (F := Ideal) coord lab A (Ref.mask lab 8#32) (extui 32 (Ref.mask lab 8#32) natLt_1_32) (constantI S_ 32 0#32)
      = andi (andi (andi (andi (andi (andi (andi (andi A (ok lab coord 8#32)) (ok lab coord 9#32)) (ok lab coord 10#32)) (ok lab coord 11#32))
          (ok lab coord 12#32)) (ok lab coord 13#32)) (ok lab coord 14#32)) (ok lab coord 15#32) := by
  rfl

/-- The precondition's function, clause by clause. -/
theorem fn_eq (feat : FVec Ideal S100000x512 .f32) (coord : FVec Ideal S100000x3 .f32) (W : FVec Ideal S512x20 .f32) (b : FVec Ideal S20 .f32) :
    fn (F := Ideal) feat coord W b = fn_part1 (F := Ideal) coord (labels (Ref.logits feat W b))
      (andi (okLogits (Ref.logits feat W b)) (okCoord coord))
      (Ref.mask (labels (Ref.logits feat W b)) 8#32) (extui 32 (Ref.mask (labels (Ref.logits feat W b)) 8#32) natLt_1_32) (constantI S_ 32 0#32) := by
  rfl

/-! ## The clauses at one entry -/

/-- A condition whose bit is one holds. -/
theorem ofBool_one {p : Prop} [Decidable p] (h : BitVec.ofBool (decide p) = 1#1) : p := by
  by_contra hp
  rw [decide_eq_false hp] at h
  exact absurd h (by decide)

/-- Each coordinate is bounded in size. -/
theorem okCoord_apply (coord : FVec Ideal S100000x3 .f32) (h : okCoord coord ix0 = 1#1) (r : Fin 100000) (d : Fin 3) :
    max (coord (ix2 r d)) (-coord (ix2 r d)) ≤ Ideal.ofBits .f32 0x48927C00#32 := by
  unfold okCoord at h
  have := Host.reduce_andi_all _ _ _ _ ix0 h (ix2 r d)
  revert this
  clear h
  pointwise
  exact ofBool_one

/-- A running maximum is no more than any bound of its terms. -/
theorem foldl_max_le {ι : Type} (f : ι → EReal) (v : EReal) : ∀ (l : List ι) (init : EReal), init ≤ v → (∀ n ∈ l, f n ≤ v) →
    l.foldl (fun r n => FloatOps.maximumf (F := Ideal) (φ := .f32) r (f n)) init ≤ v
  | [], _, h, _ => h
  | a :: l, init, h, hf => foldl_max_le f v l _ (max_le h (hf a (List.mem_cons_self ..))) fun n hn => hf n (List.mem_cons_of_mem _ hn)

/-- The greatest entry of a row is no more than any bound of the row. -/
theorem rowMax_le {N C : Nat} {u : Shape} (x : FVec Ideal ⟨2, ![N, C]⟩ .f32) (init : FVec Ideal u .f32)
    (h : (⟨2, ![N, C]⟩ : Shape).ReducesTo [1] ⟨1, ![N]⟩) (hu : 0 < u.numel) (r : Fin N) (v : EReal)
    (hi : init (Shape.Idx.first hu) ≤ v) (hx : ∀ j, x (ix2 r j) ≤ v) :
    Host.reduce FloatOps.maximumf x init h hu (ix1 r) ≤ v := by
  rw [Host.reduce_eq_foldl]
  refine foldl_max_le _ _ _ _ hi fun i hn => ?_
  have hr : h.drop i = ix1 r := of_decide_eq_true (List.mem_filter.1 hn).2
  have e : i = ix2 r (i 1) := by
    funext a
    fin_cases a
    · exact Fin.ext (congrArg Fin.val (congrFun hr 0) :)
    · rfl
  rw [e]
  exact hx (i 1)

/-- Where every row's greatest entry is at least the word's value, that word's value is no more than the entry. -/
theorem rows_ge {N C : Nat} {u v : Shape} [Subsingleton v.Idx] (x : FVec Ideal ⟨2, ![N, C]⟩ .f32) (init : FVec Ideal u .f32) (one : IVec u 1) (bound : FVec Ideal ⟨1, ![N]⟩ .f32)
    (h : (⟨2, ![N, C]⟩ : Shape).ReducesTo [1] ⟨1, ![N]⟩) (hu : 0 < u.numel) (h' : (⟨1, ![N]⟩ : Shape).ReducesTo [0] v) (j : v.Idx)
    (hi : init (Shape.Idx.first hu) = ⊥)
    (e : Host.reduce IntOp.andi (cmpf (F := Ideal) .oge (Host.reduce FloatOps.maximumf x init h hu) bound) one h' hu j = 1#1)
    (r : Fin N) (k : Fin C) (hk : FirstMax (fun j => x (ix2 r j)) k) : bound (ix1 r) ≤ x (ix2 r k) :=
  (ofBool_one (p := bound (ix1 r) ≤ Host.reduce FloatOps.maximumf x init h hu (ix1 r)) (Host.reduce_andi_all _ _ _ _ j e (ix1 r))).trans
    (rowMax_le x init h hu r _ (by rw [hi]; exact bot_le) hk.1)

/-- A row's greatest logit is at least -1.0e30. -/
theorem okLogits_apply (x : FVec Ideal S100000x20 .f32) (h : okLogits x ix0 = 1#1) (r : Fin 100000) (k : Fin 20)
    (hk : FirstMax (fun j => x (ix2 r j)) k) : Ideal.ofBits .f32 0xF149F2CA#32 ≤ x (ix2 r k) := by
  have hb : constant (F := Ideal) S_ .f32 0xFF800000#32 (Shape.Idx.first h_S_) = (⊥ : EReal) := by
    show Ideal.ofBits .f32 0xFF800000#32 = ⊥
    simp [Ideal.ofBits, Ideal.ieee]
  exact rows_ge (N := 100000) (C := 20) x _ _ _ _ _ _ _ hb h r k hk

/-- The two ways in which a class is well placed. -/
theorem or_split (f : IVec S_ 32) (g : IVec S_ 1) (h : ori (cmpi .eq f (constantI S_ 32 0#32)) g ix0 = 1#1) : f ix0 = 0#32 ∨ g ix0 = 1#1 := by
  by_cases h0 : f ix0 = 0#32
  · exact .inl h0
  · refine .inr ?_
    rw [← h]
    show g ix0 = IntOp.cmpi .eq (f ix0) 0#32 ||| g ix0
    rw [show IntOp.cmpi .eq (f ix0) 0#32 = 0#1 by simp [IntOp.cmpi, beq_false_of_ne h0]]
    exact (BitVec.zero_or).symm

/-- Bit `k` of the comparison of a vector of 26 with itself shifted by one. -/
theorem falls (v : FVec Ideal S26 .f32)
    (h : Host.reduce IntOp.andi (cmpf (F := Ideal) .ogt (extractStridedSlice S25 ![0] v slices_S26_S25_0) (extractStridedSlice S25 ![1] v slices_S26_S25_1))
      (constantI S_ 1 1#1) reducesTo_S25_S_d0 h_S_ ix0 = 1#1) (k : Fin 25) :
    v (ix1 ⟨k.val + 1, by omega⟩) < v (ix1 ⟨k.val, by omega⟩) := by
  have := Host.reduce_andi_all _ _ _ _ ix0 h (ix1 k)
  revert this
  clear h
  pointwise
  intro h
  have h' := ofBool_one h
  have e : (⟨k.val + 1, by omega⟩ : Fin 26) = ⟨1 + k.val, by omega⟩ := Fin.ext (Nat.add_comm _ _)
  rw [e]
  exact h'

/-- A well placed class has no row, or distinct distances. -/
theorem ok_apply (lab : IVec S100000 32) (coord : FVec Ideal S100000x3 .f32) (c : BitVec 32) (h : ok lab coord c ix0 = 1#1) :
    members (fun r => lab (ix1 r)) c = 0 ∨ Distinct lab coord c := by
  unfold ok at h
  rcases or_split _ _ h with h | h
  · refine .inl ?_
    rw [Ref.count_eq] at h
    have hc : members (fun r => lab (ix1 r)) c ≤ 100000 := (Finset.card_le_univ _).trans (by simp)
    have := congrArg BitVec.toNat h
    rw [BitVec.toNat_ofNat] at this
    have e : members (fun r => lab (ix1 r)) c % 2 ^ 32 = 0 := this
    omega
  · refine .inr fun k hk => ?_
    have := falls _ h ⟨k, hk⟩
    have e1 := (topK_read (Ref.negDist lab coord c) sliceFits_S100000_S26 (⟨k + 1, by omega⟩ : Fin 26) (by show k + 1 < 100000; omega)).1
    have e2 := (topK_read (Ref.negDist lab coord c) sliceFits_S100000_S26 (⟨k, by omega⟩ : Fin 26) (by show k < 100000; omega)).1
    exact lt_of_eq_of_lt e1.symm (lt_of_lt_of_eq this e2)

end Cert.Proof.Pre

end
-- ==== Proof.Equal.lean ====
module

public import proofs.«01_k».proof.Proof.Labels
public import proofs.«01_k».proof.Proof.KValue
public import proofs.«01_k».proof.Proof.RefResult
public import proofs.«01_k».proof.Proof.PreRead

@[expose] public section

noncomputable section

namespace Cert.Proof

open Idealize.ShloMosaic
open Cert.KernelIdeal (S784x128 S100000x3 S100000x20 S100000x512 S512x20 S20 S100000)

/-! ## The precondition's clauses -/

/-- What the precondition says of the arguments. -/
structure Clauses (feat : FVec Ideal S100000x512 .f32) (coord : FVec Ideal S100000x3 .f32) (W : FVec Ideal S512x20 .f32) (b : FVec Ideal S20 .f32) : Prop where
  logits : ∀ (r : Fin 100000) (k : Fin 20), FirstMax (fun j => Ref.logits feat W b (ix2 r j)) k →
    Ideal.ofBits .f32 0xF149F2CA#32 ≤ Ref.logits feat W b (ix2 r k)
  coords : ∀ (r : Fin 100000) (d : Fin 3), max (coord (ix2 r d)) (-coord (ix2 r d)) ≤ Ideal.ofBits .f32 0x48927C00#32
  classes : ∀ c : BitVec 32, c = 8#32 ∨ c = 9#32 ∨ c = 10#32 ∨ c = 11#32 ∨ c = 12#32 ∨ c = 13#32 ∨ c = 14#32 ∨ c = 15#32 →
    members (fun r => Ref.labels (Ref.logits feat W b) (ix1 r)) c = 0 ∨ Distinct (Ref.labels (Ref.logits feat W b)) coord c

/-- Two bits whose conjunction is one are one. -/
theorem and_split {a b : IVec Cert.Pre_no_ties.S_ 1} (h : andi a b ix0 = 1#1) : a ix0 = 1#1 ∧ b ix0 = 1#1 := IntOp.andi_eq_one.1 h

/-- The precondition gives its clauses. -/
theorem clauses_of (feat : FVec Ideal S100000x512 .f32) (coord : FVec Ideal S100000x3 .f32) (W : FVec Ideal S512x20 .f32) (b : FVec Ideal S20 .f32)
    (h : Cert.Pre_no_ties.fn (F := Ideal) feat coord W b = fun _ => 1#1) : Clauses feat coord W b := by
  have h := congrFun h ix0
  rw [Pre.fn_eq, Pre.tail_eq, Pre.labels_eq] at h
  obtain ⟨h, h15⟩ := and_split h
  obtain ⟨h, h14⟩ := and_split h
  obtain ⟨h, h13⟩ := and_split h
  obtain ⟨h, h12⟩ := and_split h
  obtain ⟨h, h11⟩ := and_split h
  obtain ⟨h, h10⟩ := and_split h
  obtain ⟨h, h9⟩ := and_split h
  obtain ⟨h, h8⟩ := and_split h
  obtain ⟨hl, hx⟩ := and_split h
  refine ⟨fun r k => Pre.okLogits_apply _ hl r k, fun r d => Pre.okCoord_apply _ hx r d, fun c hc => Pre.ok_apply _ _ c ?_⟩
  rcases hc with rfl | rfl | rfl | rfl | rfl | rfl | rfl | rfl
  exacts [h8, h9, h10, h11, h12, h13, h14, h15]

/-! ## The logits and the labels -/

/-- The first 20 of the kernel's 32 logits are the reference's. -/
theorem headRow_lt (feat : FVec Ideal S100000x512 .f32) (W : FVec Ideal S512x20 .f32) (b : FVec Ideal S20 .f32) (r : Fin 100000) (j : Fin 20) :
    Ker.headRow feat W b r (j.castLE (by decide)) = Ref.logits feat W b (ix2 r j) := by
  rw [Ref.logits_apply]
  refine congrArg₂ (· + ·) (Finset.sum_congr rfl fun k _ => congrArg (feat (ix2 r k) * ·) ?_) ?_
  · exact dif_pos j.isLt
  · exact dif_pos j.isLt

/-- The other twelve are -1.0e30: their weights are zero. -/
theorem headRow_ge (feat : FVec Ideal S100000x512 .f32) (W : FVec Ideal S512x20 .f32) (b : FVec Ideal S20 .f32) (r : Fin 100000) (j : Fin 32)
    (hj : 20 ≤ j.val) : Ker.headRow feat W b r j = Ideal.ofBits .f32 0xF149F2CA#32 := by
  have h1 : ∀ k : Fin 512, Ker.wpad W (ix2 k j) = 0 := fun k => dif_neg (Nat.not_lt.2 hj)
  have h2 : Ker.bpad b (ix2 0 j) = Ideal.ofBits .f32 0xF149F2CA#32 := dif_neg (Nat.not_lt.2 hj)
  unfold Ker.headRow Ker.headAt
  rw [h2]
  simp only [h1, mul_zero, Finset.sum_const_zero, zero_add]

/-- A row's label is the same on both sides. -/
theorem label_eq (feat : FVec Ideal S100000x512 .f32) (coord : FVec Ideal S100000x3 .f32) (W : FVec Ideal S512x20 .f32) (b : FVec Ideal S20 .f32)
    (h : Clauses feat coord W b) (r : Fin 100000) :
    rowLabel (Ker.headRow feat W b r) = Ref.labels (Ref.logits feat W b) (ix1 r) := by
  obtain ⟨k, hk⟩ := exists_firstMax (by decide : 0 < 20) fun j => Ref.logits feat W b (ix2 r j)
  rw [labels_eq _ r k hk]
  exact rowLabel_eq _ _ (hk.pad (by decide) _ _ (headRow_lt feat W b r) (headRow_ge feat W b r) (h.logits r k hk))

/-- Coordinates of bounded size are real numbers of that size. -/
theorem coords_real (feat : FVec Ideal S100000x512 .f32) (coord : FVec Ideal S100000x3 .f32) (W : FVec Ideal S512x20 .f32) (b : FVec Ideal S20 .f32)
    (h : Clauses feat coord W b) :
    ∃ X : Fin 100000 → Fin 3 → ℝ, (∀ r d, coord (ix2 r d) = (X r d : EReal)) ∧ ∀ r d, |X r d| ≤ 300000 := by
  have key : ∀ r d, coord (ix2 r d) = ((coord (ix2 r d)).toReal : EReal) ∧ |(coord (ix2 r d)).toReal| ≤ 300000 := by
    intro r d
    have hc := h.coords r d
    rw [word_bound] at hc
    generalize coord (ix2 r d) = v at hc ⊢
    change EReal at v
    induction v with
    | bot => exact absurd (le_trans (le_max_right _ _) hc) (by simp)
    | top => exact absurd (le_trans (le_max_left _ _) hc) (by simp)
    | coe a =>
      refine ⟨rfl, abs_le.2 ⟨?_, ?_⟩⟩
      · have := le_trans (le_max_right _ _) hc
        rw [← EReal.coe_neg, EReal.coe_le_coe_iff] at this
        show -300000 ≤ a
        linarith
      · exact EReal.coe_le_coe_iff.1 (le_trans (le_max_left _ _) hc)
  exact ⟨fun r d => (coord (ix2 r d)).toReal, fun r d => (key r d).1, fun r d => (key r d).2⟩

/-! ## The mark -/

/-- Or, on bits. -/
theorem ori_ofBool (a b : Bool) : IntOp.ori (BitVec.ofBool a) (BitVec.ofBool b) = BitVec.ofBool (a || b) := by
  cases a <;> cases b <;> rfl

/-- The mark at a place is not zero exactly when one of the eight classes' tests holds there. -/
theorem reset_ne_zero (x y z : FVec Ideal S784x128 .f32) (lab : IVec S784x128 32) (p : S784x128.Idx) (P : BitVec 32 → Bool)
    (hP : ∀ c, Ker.planeFar (F := Ideal) x y z lab c p = BitVec.ofBool (P c)) :
    Ker.resetPlane (F := Ideal) x y z lab p ≠ 0
      ↔ (P 8#32 || P 9#32 || P 10#32 || P 11#32 || P 12#32 || P 13#32 || P 14#32 || P 15#32) = true := by
  have e : Ker.resetPlane (F := Ideal) x y z lab p
      = Scalar.select (BitVec.ofBool (P 8#32 || P 9#32 || P 10#32 || P 11#32 || P 12#32 || P 13#32 || P 14#32 || P 15#32))
          (Ideal.ofBits .f32 0x3F800000#32) (Ideal.ofBits .f32 0x00000000#32) := by
    rw [show Ker.resetPlane (F := Ideal) x y z lab p = Scalar.select
      (IntOp.ori (IntOp.ori (IntOp.ori (IntOp.ori (IntOp.ori (IntOp.ori (IntOp.ori (IntOp.ori 0#1 (Ker.planeFar x y z lab 8#32 p)) (Ker.planeFar x y z lab 9#32 p))
      (Ker.planeFar x y z lab 10#32 p)) (Ker.planeFar x y z lab 11#32 p)) (Ker.planeFar x y z lab 12#32 p)) (Ker.planeFar x y z lab 13#32 p))
      (Ker.planeFar x y z lab 14#32 p)) (Ker.planeFar x y z lab 15#32 p))
      (Ideal.ofBits .f32 0x3F800000#32) (Ideal.ofBits .f32 0x00000000#32) from rfl]
    simp only [hP]
    rw [show (0#1 : BitVec 1) = BitVec.ofBool false from rfl]
    simp only [ori_ofBool, Bool.false_or]
  rw [e]
  have h1 : Ideal.ofBits .f32 0x3F800000#32 ≠ 0 := by rw [word_one]; exact one_ne_zero
  have h0 : Ideal.ofBits .f32 0x00000000#32 = (0 : EReal) := by simp [Ideal.ofBits, Ideal.ieee]
  generalize (P 8#32 || P 9#32 || P 10#32 || P 11#32 || P 12#32 || P 13#32 || P 14#32 || P 15#32) = t
  cases t
  · simp [Scalar.select, h0]
  · simp [Scalar.select, h1]

/-- The target row is the same on both sides. -/
theorem target_eq (j : Fin 20) : Ker.targetAt j = Ref.target (ix1 j) := by
  rw [target_apply]
  unfold Ker.targetAt
  by_cases h : j.val = 1
  · rw [if_pos h, h]
    rfl
  · rw [if_neg h]
    have : (BitVec.ofNat 32 j.val) ≠ 1#32 := by
      intro e
      have e := congrArg BitVec.toNat e
      rw [BitVec.toNat_ofNat, Nat.mod_eq_of_lt (by have := j.isLt; omega)] at e
      exact h e
    simp [Scalar.select, IntOp.cmpi, beq_false_of_ne this]

/-! ## The two results -/

/-- A choice on equivalent conditions. -/
theorem ite_of_iff {α : Type} {p q : Prop} {dp : Decidable p} {dq : Decidable q} (t x : α) (h : p ↔ q) :
    @ite α p dp t x = @ite α q dq t x := by
  by_cases hp : p
  · rw [if_pos hp, if_pos (h.1 hp)]
  · rw [if_neg hp, if_neg fun hq => hp (h.2 hq)]

/-- Two choices of the same value are one choice on either condition. -/
theorem or_ite {α : Type} (p q : Prop) [Decidable p] [Decidable q] [Decidable (q ∨ p)] (t x : α) : (if p then t else if q then t else x) = if q ∨ p then t else x := by
  by_cases hp : p <;> by_cases hq : q <;> simp [hp, hq]

open Classical in
/-- The reference at one element. -/
theorem result_apply (feat : FVec Ideal S100000x512 .f32) (coord : FVec Ideal S100000x3 .f32) (W : FVec Ideal S512x20 .f32) (b : FVec Ideal S20 .f32)
    (r : Fin 100000) (j : Fin 20) (P : BitVec 32 → Prop)
    (hP : ∀ c, P c ↔ Ref.labels (Ref.logits feat W b) (ix1 r) = c ∧ Ref.nearest (Ref.labels (Ref.logits feat W b)) coord c (ix1 r) ≠ 1#1) :
    Ref.result feat coord W b (ix2 r j)
      = if ((((((P 8#32 ∨ P 9#32) ∨ P 10#32) ∨ P 11#32) ∨ P 12#32) ∨ P 13#32) ∨ P 14#32) ∨ P 15#32 then Ref.target (ix1 j) else Ref.logits feat W b (ix2 r j) := by
  have hs : ∀ c x, Ref.step (Ref.labels (Ref.logits feat W b)) coord c Ref.target x (ix2 r j) = if P c then Ref.target (ix1 j) else x (ix2 r j) := by
    intro c x
    rw [Ref.step_apply]
    exact if_congr (hP c).symm rfl rfl
  unfold Ref.result
  simp only [hs, or_ite]

open Classical in
/-- A class's test at a row's place. -/
theorem far_apply (lab : Fin 100000 → BitVec 32) (coord : FVec Ideal S100000x3 .f32) (c : BitVec 32) (r : Fin 100000) :
    Ker.planeFar (F := Ideal) (Ker.coordPlane coord 0) (Ker.coordPlane coord 1) (Ker.coordPlane coord 2) (Ker.labelPlane lab) c (ix2 (emb r).1 (emb r).2)
      = BitVec.ofBool (decide (lab r = c ∧ climb (planeSq lab coord c) (Ideal.ofBits .f32 0x7F61B1E6#32) ⊤ 24 < planeSq lab coord c (emb r))) := by
  refine (Ker.planeFar_apply ..).trans (congrArg BitVec.ofBool (decide_eq_decide.2 ?_))
  rw [labelPlane_emb]
  exact Iff.rfl

/-- Under the precondition the two results agree at each element. -/
theorem value_apply (feat : FVec Ideal S100000x512 .f32) (coord : FVec Ideal S100000x3 .f32) (W : FVec Ideal S512x20 .f32) (b : FVec Ideal S20 .f32)
    (h : Cert.Pre_no_ties.fn (F := Ideal) feat coord W b = fun _ => 1#1) (r : Fin 100000) (j : Fin 20) :
    Ker.value feat coord W b (ix2 r j) = Ref.result feat coord W b (ix2 r j) := by
  classical
  have h := clauses_of feat coord W b h
  obtain ⟨X, hX, hM⟩ := coords_real feat coord W b h
  rw [result_apply feat coord W b r j _ fun c => Iff.rfl]
  have hlab : (fun r => rowLabel (Ker.headRow feat W b r)) = fun r => Ref.labels (Ref.logits feat W b) (ix1 r) := funext (label_eq feat coord W b h)
  show Ker.applied (Ker.resetPlane (F := Ideal) (Ker.coordPlane coord 0) (Ker.coordPlane coord 1) (Ker.coordPlane coord 2)
    (Ker.labelPlane fun r => rowLabel (Ker.headRow feat W b r)) (ix2 (emb r).1 (emb r).2)) j (Ker.headRow feat W b r (j.castLE (by decide))) = _
  rw [hlab, headRow_lt]
  unfold Ker.applied
  rw [target_eq]
  generalize Ref.target (ix1 j) = t
  generalize Ref.logits feat W b (ix2 r j) = x
  refine ite_of_iff t x ?_
  have hf : ∀ c : BitVec 32, (c = 8#32 ∨ c = 9#32 ∨ c = 10#32 ∨ c = 11#32 ∨ c = 12#32 ∨ c = 13#32 ∨ c = 14#32 ∨ c = 15#32) → _ :=
    fun c hc => far_iff (Ref.labels (Ref.logits feat W b)) coord c (by rcases hc with rfl | rfl | rfl | rfl | rfl | rfl | rfl | rfl <;> decide) X hX hM (h.classes c hc) r
  generalize Ref.labels (Ref.logits feat W b) = lab at hf ⊢
  have e := (reset_ne_zero (Ker.coordPlane coord 0) (Ker.coordPlane coord 1) (Ker.coordPlane coord 2) (Ker.labelPlane fun r => lab (ix1 r)) (ix2 (emb r).1 (emb r).2) (fun c => decide (lab (ix1 r) = c
    ∧ climb (planeSq (fun r => lab (ix1 r)) coord c) (Ideal.ofBits .f32 0x7F61B1E6#32) ⊤ 24 < planeSq (fun r => lab (ix1 r)) coord c (emb r)))
    fun c => far_apply (fun r => lab (ix1 r)) coord c r)
  refine Iff.trans e ?_
  simp only [Bool.or_eq_true, decide_eq_true_eq]
  refine or_congr (or_congr (or_congr (or_congr (or_congr (or_congr (or_congr (hf _ ?_) (hf _ ?_)) (hf _ ?_)) (hf _ ?_)) (hf _ ?_)) (hf _ ?_)) (hf _ ?_)) (hf _ ?_)
  all_goals simp

/-- Under the precondition the kernel's result is the reference's. -/
theorem value_eq (feat : FVec Ideal S100000x512 .f32) (coord : FVec Ideal S100000x3 .f32) (W : FVec Ideal S512x20 .f32) (b : FVec Ideal S20 .f32)
    (h : Cert.Pre_no_ties.fn (F := Ideal) feat coord W b = fun _ => 1#1) : Ker.value feat coord W b = Ref.result feat coord W b := by
  funext i
  have e : i = ix2 (i 0 : Fin 100000) (i 1 : Fin 20) := by funext a; fin_cases a <;> rfl
  exact (congrArg (Ker.value feat coord W b) e).trans ((value_apply feat coord W b h (i 0) (i 1)).trans (congrArg (Ref.result feat coord W b) e).symm)

end Cert.Proof

end
-- ==== Proof.KRun.lean ====
module

public import proofs.«01_k».proof.Proof.Gen.KernelIdeal.Frame

@[expose] public section

noncomputable section

namespace Cert.Proof.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel runs; its result buffer ends as the last boundary's contents say and its arguments as launched. -/
theorem run : θ_run defs (onTc (τ := τ) (main (F := F))) ⟨m, fun _ => 0, ρ⟩ (fun r => ∀ c : Dev nD,
      r.2.mem ((c.tc : Thread nD τ).loc main_v25) = W9 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v25 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.Proof.Ker

end
-- ==== Proof.Algebraic.lean ====
module

public import proofs.«01_k».proof.Defs
public import proofs.«01_k».proof.Proof.Equal
public import proofs.«01_k».proof.Proof.KRun
public import proofs.«01_k».proof.Proof.RefFrame

@[expose] public section

noncomputable section

namespace Cert.Proof

open Idealize.ShloMosaic Idealize.SL.Sem StableHlo

/-- From equal arguments for which the precondition holds, the kernel and the reference end with the same result. -/
theorem algebraic : Cert.algebraic_KernelIdeal_ReferenceIdeal_pre_no_ties (hKernelIdeal := Cert.KernelIdeal.Gen.facts)
    (hReferenceIdeal := Cert.ReferenceIdeal.Gen.facts) (hPre_no_ties := preFacts) := by
  intro m g m' g' hpre harg
  refine ⟨fun c => Cert.KernelIdeal.Gen.W9 m g c (Proc.devRef .tc Cert.KernelIdeal.main_v25), Ker.run m g, θ_run_mono (Ref.run m' g') fun r h c => ?_⟩
  obtain ⟨h0, h1, h2, h3⟩ := Ref.line_args (launchContents m' c)
  refine ⟨((h c _).trans (Ref.line_result _)).trans ?_, (h c _).trans h0, (h c _).trans h1, (h c _).trans h2, (h c _).trans h3⟩
  obtain ⟨a0, a1, a2, a3⟩ := harg c
  refine Eq.trans ?_ (Ker.W9_main_v25 m g c).symm
  rw [value_eq _ _ _ _ (hpre c), ← a0, ← a1, ← a2, ← a3]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem

/-- Everything claimed: the frames, that the idealized kernel keeps the program, and the equality of the results. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    Ref.frame, fun m ρ _ => Ref.frame m ρ trivial, trivial, algebraic⟩

end Cert.Proof

end
